-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_encoding [hPre_finite_encoding : Cert.Pre_finite_encoding.Facts] (m : (ℓ : Loc Cert.KernelIdeal.nD Cert.KernelIdeal.τ Cert.KernelIdeal.sig) → Buf (Elt Ideal) ℓ) : Prop :=
  ∀ c : Dev Cert.KernelIdeal.nD,
    (Cert.Pre_finite_encoding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_encoding [hPre_finite_encoding : Cert.Pre_finite_encoding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_encoding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_encoding [hKernelIdeal : Cert.KernelIdeal.Facts] [hPre_finite_encoding : Cert.Pre_finite_encoding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_encoding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_encoding [hReferenceIdeal : Cert.ReferenceIdeal.Facts] [hPre_finite_encoding : Cert.Pre_finite_encoding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_encoding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_encoding [hKernelIdeal : Cert.KernelIdeal.Facts] [hReferenceIdeal : Cert.ReferenceIdeal.Facts] [hPre_finite_encoding : Cert.Pre_finite_encoding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_encoding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_encoding : Cert.Pre_finite_encoding.Facts),
    quiescent_Kernel (hKernel := hKernel)
    ∧ quiescent_KernelIdeal (hKernelIdeal := hKernelIdeal)
    ∧ quiescent_KernelIdeal_pre_finite_encoding (hKernelIdeal := hKernelIdeal) (hPre_finite_encoding := hPre_finite_encoding)
    ∧ quiescent_ReferenceIdeal (hReferenceIdeal := hReferenceIdeal)
    ∧ quiescent_ReferenceIdeal_pre_finite_encoding (hReferenceIdeal := hReferenceIdeal) (hPre_finite_encoding := hPre_finite_encoding)
    ∧ preserves_Kernel_KernelIdeal
    ∧ algebraic_KernelIdeal_ReferenceIdeal_pre_finite_encoding (hKernelIdeal := hKernelIdeal) (hReferenceIdeal := hReferenceIdeal) (hPre_finite_encoding := hPre_finite_encoding)
-- ==== Pre_finite_encoding.lean ====
abbrev S8192x768 : Shape := ⟨2, ![8192, 768]⟩
abbrev S768x2048 : Shape := ⟨2, ![768, 2048]⟩
abbrev S2048 : Shape := ⟨1, ![2048]⟩
abbrev S2048x1024 : Shape := ⟨2, ![2048, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x2048 : Shape := ⟨2, ![1024, 2048]⟩
abbrev S2048x768 : Shape := ⟨2, ![2048, 768]⟩
abbrev S768 : Shape := ⟨1, ![768]⟩
abbrev S4x1024x256 : Shape := ⟨3, ![4, 1024, 256]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_v29 : IVec S_ 1) (main_v32 : IVec S256 1) (main_c_12 : IVec S_ 1) : IVec S_ 1 :=
  let main_v33 : IVec S_ 1 := (fun x v => Host.reduce IntOp.andi x v reducesTo_S256_S_d0 h_S_) main_v32 main_c_12
  let main_v34 : IVec S_ 1 := andi main_v29 main_v33
  main_v34

def fn_part1 {F : FTy → Type} [FloatOps F] (main_arg4 : FVec F S1024 .f32) (main_arg5 : FVec F S1024x256 .f32) (main_arg6 : FVec F S256 .f32) (main_v14 : IVec S_ 1) (main_v15 : FVec F S2048x1024 .f32) (main_cst_5 : FVec F S_ .f32) : IVec S_ 1 :=
  let main_v16 : FVec F S2048x1024 .f32 := broadcastInDim S2048x1024 ![] bcast_S_S2048x1024 main_cst_5
  let main_v17 : IVec S2048x1024 1 := cmpf .olt main_v15 main_v16
  let main_c_6 : IVec S_ 1 := constantI S_ 1 1#1
  let main_v18 : IVec S_ 1 := (fun x v => Host.reduce IntOp.andi x v reducesTo_S2048x1024_S_d0_1 h_S_) main_v17 main_c_6
  let main_v19 : IVec S_ 1 := andi main_v14 main_v18
  let main_v20 : FVec F S1024 .f32 := Host.absf main_arg4
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  let main_v25 : FVec F S1024x256 .f32 := Host.absf main_arg5
  let main_cst_9 : FVec F S_ .f32 := constant S_ .f32 0x7F800000#32
  let main_v26 : FVec F S1024x256 .f32 := broadcastInDim S1024x256 ![] bcast_S_S1024x256 main_cst_9
  let main_v27 : IVec S1024x256 1 := cmpf .olt main_v25 main_v26
  let main_c_10 : IVec S_ 1 := constantI S_ 1 1#1
  let main_v28 : IVec S_ 1 := (fun x v => Host.reduce IntOp.andi x v reducesTo_S1024x256_S_d0_1 h_S_) main_v27 main_c_10
  let main_v29 : IVec S_ 1 := andi main_v24 main_v28
  let main_v30 : FVec F S256 .f32 := Host.absf main_arg6
  let main_cst_11 : FVec F S_ .f32 := constant S_ .f32 0x7F800000#32
  let main_v31 : FVec F S256 .f32 := broadcastInDim S256 ![] bcast_S_S256 main_cst_11
  let main_v32 : IVec S256 1 := cmpf .olt main_v30 main_v31
  let main_c_12 : IVec S_ 1 := constantI S_ 1 1#1
  fn_part2 (F := F) main_v29 main_v32 main_c_12

def fn {F : FTy → Type} [FloatOps F] (main_arg0 : FVec F S8192x768 .f32) (main_arg1 : FVec F S768x2048 .f32) (main_arg2 : FVec F S2048 .f32) (main_arg3 : FVec F S2048x1024 .f32) (main_arg4 : FVec F S1024 .f32) (main_arg5 : FVec F S1024x256 .f32) (main_arg6 : FVec F S256 .f32) (main_arg7 : FVec F S256x1024 .f32) (main_arg8 : FVec F S1024 .f32) (main_arg9 : FVec F S1024x2048 .f32) (main_arg10 : FVec F S2048 .f32) (main_arg11 : FVec F S2048x768 .f32) (main_arg12 : FVec F S768 .f32) (main_arg13 : FVec F S4x1024x256 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_c_0 : IVec S_ 1 := constantI S_ 1 1#1
  let main_v4 : IVec S_ 1 := andi main_c_0 main_v3
  let main_v5 : FVec F S768x2048 .f32 := Host.absf main_arg1
  let main_cst_1 : FVec F S_ .f32 := constant S_ .f32 0x7F800000#32
  let main_v6 : FVec F S768x2048 .f32 := broadcastInDim S768x2048 ![] bcast_S_S768x2048 main_cst_1
  let main_v7 : IVec S768x2048 1 := cmpf .olt main_v5 main_v6
  let main_c_2 : IVec S_ 1 := constantI S_ 1 1#1
  let main_v8 : IVec S_ 1 := (fun x v => Host.reduce IntOp.andi x v reducesTo_S768x2048_S_d0_1 h_S_) main_v7 main_c_2
  let main_v9 : IVec S_ 1 := andi main_v4 main_v8
  let main_v10 : FVec F S2048 .f32 := Host.absf main_arg2
  let main_cst_3 : FVec F S_ .f32 := constant S_ .f32 0x7F800000#32
  let main_v11 : FVec F S2048 .f32 := broadcastInDim S2048 ![] bcast_S_S2048 main_cst_3
  let main_v12 : IVec S2048 1 := cmpf .olt main_v10 main_v11
  let main_c_4 : IVec S_ 1 := constantI S_ 1 1#1
  let main_v13 : IVec S_ 1 := (fun x v => Host.reduce IntOp.andi x v reducesTo_S2048_S_d0 h_S_) main_v12 main_c_4
  let main_v14 : IVec S_ 1 := andi main_v9 main_v13
  let main_v15 : FVec F S2048x1024 .f32 := Host.absf main_arg3
  let main_cst_5 : FVec F S_ .f32 := constant S_ .f32 0x7F800000#32
  fn_part1 (F := F) main_arg4 main_arg5 main_arg6 main_v14 main_v15 main_cst_5
-- ==== Kernel.lean ====
abbrev S8192x768 : Shape := ⟨2, ![8192, 768]⟩
abbrev S768x2048 : Shape := ⟨2, ![768, 2048]⟩
abbrev S2048 : Shape := ⟨1, ![2048]⟩
abbrev S2048x1024 : Shape := ⟨2, ![2048, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x2048 : Shape := ⟨2, ![1024, 2048]⟩
abbrev S2048x768 : Shape := ⟨2, ![2048, 768]⟩
abbrev S768 : Shape := ⟨1, ![768]⟩
abbrev S4x1024x256 : Shape := ⟨3, ![4, 1024, 256]⟩
abbrev S1x2048 : Shape := ⟨2, ![1, 2048]⟩
abbrev S1x1024 : Shape := ⟨2, ![1, 1024]⟩
abbrev S1x256 : Shape := ⟨2, ![1, 256]⟩
abbrev S1x768 : Shape := ⟨2, ![1, 768]⟩
abbrev S1x1 : Shape := ⟨2, ![1, 1]⟩
abbrev S512x768 : Shape := ⟨2, ![512, 768]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S512 : Shape := ⟨1, ![512]⟩
abbrev S512x1 : Shape := ⟨2, ![512, 1]⟩
abbrev S1x512x256 : Shape := ⟨3, ![1, 512, 256]⟩
abbrev S1 : Shape := ⟨1, ![1]⟩
abbrev S1x1x1 : Shape := ⟨3, ![1, 1, 1]⟩
abbrev S_ : Shape := ⟨0, ![]⟩

abbrev nBuf : Space → Nat
  | .hbm => 23
  | .vmem => 18
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024x256, .f32⟩
  | .hbm, ⟨6, _⟩ => ⟨S256, .f32⟩
  | .hbm, ⟨7, _⟩ => ⟨S256x1024, .f32⟩
  | .hbm, ⟨8, _⟩ => ⟨S1024, .f32⟩
  | .hbm, ⟨9, _⟩ => ⟨S1024x2048, .f32⟩
  | .hbm, ⟨10, _⟩ => ⟨S2048, .f32⟩
  | .hbm, ⟨11, _⟩ => ⟨S2048x768, .f32⟩
  | .hbm, ⟨12, _⟩ => ⟨S768, .f32⟩
  | .hbm, ⟨13, _⟩ => ⟨S4x1024x256, .f32⟩
  | .hbm, ⟨14, _⟩ => ⟨S1x2048, .f32⟩
  | .hbm, ⟨15, _⟩ => ⟨S1x1024, .f32⟩
  | .hbm, ⟨16, _⟩ => ⟨S1x256, .f32⟩
  | .hbm, ⟨17, _⟩ => ⟨S1x1024, .f32⟩
  | .hbm, ⟨18, _⟩ => ⟨S1x2048, .f32⟩
  | .hbm, ⟨19, _⟩ => ⟨S1x768, .f32⟩
  | .hbm, ⟨20, _⟩ => ⟨S8192x768, .f32⟩
  | .hbm, ⟨21, _⟩ => ⟨S1x1, .f32⟩
  | .hbm, ⟨22, _⟩ => ⟨S_, .f32⟩
  | .local _ .vmem, ⟨0, _⟩ => ⟨S512x768, .f32⟩
  | .local _ .vmem, ⟨1, _⟩ => ⟨S512x768, .f32⟩
  | .local _ .vmem, ⟨2, _⟩ => ⟨S768x2048, .f32⟩
  | .local _ .vmem, ⟨3, _⟩ => ⟨S1x2048, .f32⟩
  | .local _ .vmem, ⟨4, _⟩ => ⟨S2048x1024, .f32⟩
  | .local _ .vmem, ⟨5, _⟩ => ⟨S1x1024, .f32⟩
  | .local _ .vmem, ⟨6, _⟩ => ⟨S1024x256, .f32⟩
  | .local _ .vmem, ⟨7, _⟩ => ⟨S1x256, .f32⟩
  | .local _ .vmem, ⟨8, _⟩ => ⟨S256x1024, .f32⟩
  | .local _ .vmem, ⟨9, _⟩ => ⟨S1x1024, .f32⟩
  | .local _ .vmem, ⟨10, _⟩ => ⟨S1024x2048, .f32⟩
  | .local _ .vmem, ⟨11, _⟩ => ⟨S1x2048, .f32⟩
  | .local _ .vmem, ⟨12, _⟩ => ⟨S2048x768, .f32⟩
  | .local _ .vmem, ⟨13, _⟩ => ⟨S1x768, .f32⟩
  | .local _ .vmem, ⟨14, _⟩ => ⟨S4x1024x256, .f32⟩
  | .local _ .vmem, ⟨15, _⟩ => ⟨S512x768, .f32⟩
  | .local _ .vmem, ⟨16, _⟩ => ⟨S512x768, .f32⟩
  | .local _ .vmem, ⟨17, _⟩ => ⟨S1x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1024x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x768 : Shape := ⟨2, ![8192, 768]⟩
abbrev S768x2048 : Shape := ⟨2, ![768, 2048]⟩
abbrev S2048 : Shape := ⟨1, ![2048]⟩
abbrev S2048x1024 : Shape := ⟨2, ![2048, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x2048 : Shape := ⟨2, ![1024, 2048]⟩
abbrev S2048x768 : Shape := ⟨2, ![2048, 768]⟩
abbrev S768 : Shape := ⟨1, ![768]⟩
abbrev S4x1024x256 : Shape := ⟨3, ![4, 1024, 256]⟩
abbrev S8192x2048 : Shape := ⟨2, ![8192, 2048]⟩
abbrev S1x2048 : Shape := ⟨2, ![1, 2048]⟩
abbrev S_ : Shape := ⟨0, ![]⟩
abbrev S8192x1024 : Shape := ⟨2, ![8192, 1024]⟩
abbrev S1x1024 : Shape := ⟨2, ![1, 1024]⟩
abbrev S8192x256 : Shape := ⟨2, ![8192, 256]⟩
abbrev S1x256 : Shape := ⟨2, ![1, 256]⟩
abbrev S1x1024x256 : Shape := ⟨3, ![1, 1024, 256]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S4 : Shape := ⟨1, ![4]⟩
abbrev S1x768 : Shape := ⟨2, ![1, 768]⟩

abbrev nBuf : Space → Nat
  | .hbm => 319
  | .vmem => 0
  | .smem => 0
  | _ => 0

abbrev hbmTy0_0 (i : Nat) : BufTy := match i % 128 with
  | 0 => ⟨S8192x768, .f32⟩
  | 1 => ⟨S768x2048, .f32⟩
  | 2 => ⟨S2048, .f32⟩
  | 3 => ⟨S2048x1024, .f32⟩
  | 4 => ⟨S1024, .f32⟩
  | 5 => ⟨S1024x256, .f32⟩
  | 6 => ⟨S256, .f32⟩
  | 7 => ⟨S256x1024, .f32⟩
  | 8 => ⟨S1024, .f32⟩
  | 9 => ⟨S1024x2048, .f32⟩
  | 10 => ⟨S2048, .f32⟩
  | 11 => ⟨S2048x768, .f32⟩
  | 12 => ⟨S768, .f32⟩
  | 13 => ⟨S4x1024x256, .f32⟩
  | 14 => ⟨S8192x2048, .f32⟩
  | 15 => ⟨S1x2048, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S8192x1024, .f32⟩
  | 22 => ⟨S1x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x256, .f32⟩
  | 29 => ⟨S1x256, .f32⟩
  | 30 => ⟨S8192x256, .f32⟩
  | 31 => ⟨S8192x256, .f32⟩
  | 32 => ⟨S_, .f32⟩
  | 33 => ⟨S8192x256, .f32⟩
  | 34 => ⟨S1x1024x256, .f32⟩
  | 35 => ⟨S1024x256, .f32⟩
  | 36 => ⟨S8192x256, .f32⟩
  | 37 => ⟨S_, .f32⟩
  | 38 => ⟨S8192, .f32⟩
  | 39 => ⟨S8192x1, .f32⟩
  | 40 => ⟨S256x1024, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S8192x1024, .f32⟩
  | 47 => ⟨S1024x256, .f32⟩
  | 48 => ⟨S_, .f32⟩
  | 49 => ⟨S1024, .f32⟩
  | 50 => ⟨S1x1024, .f32⟩
  | 51 => ⟨S8192x1024, .f32⟩
  | 52 => ⟨S8192x1024, .f32⟩
  | 53 => ⟨S8192x1024, .i32⟩
  | 54 => ⟨S_, .f32⟩
  | 55 => ⟨S_, .i32⟩
  | 56 => ⟨S8192, .f32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S1, .i32⟩
  | 67 => ⟨S_, .i32⟩
  | 68 => ⟨S8192x1, .i32⟩
  | 69 => ⟨S8192x1, .i1⟩
  | 70 => ⟨S1x1, .i32⟩
  | 71 => ⟨S8192x1, .i32⟩
  | 72 => ⟨S8192x1, .i1⟩
  | 73 => ⟨S8192x1, .i1⟩
  | 74 => ⟨S_, .i1⟩
  | 75 => ⟨S8192, .i1⟩
  | 76 => ⟨S8192x256, .f32⟩
  | 77 => ⟨S8192x256, .i1⟩
  | 78 => ⟨S_, .f32⟩
  | 79 => ⟨S8192x256, .f32⟩
  | 80 => ⟨S8192x256, .f32⟩
  | 81 => ⟨S8192x256, .f32⟩
  | 82 => ⟨S8192x256, .f32⟩
  | 83 => ⟨S_, .f32⟩
  | 84 => ⟨S_, .f32⟩
  | 85 => ⟨S_, .f32⟩
  | 86 => ⟨S_, .f32⟩
  | 87 => ⟨S8192x256, .f32⟩
  | 88 => ⟨S8192x256, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S8192x256, .f32⟩
  | 97 => ⟨S8192x256, .f32⟩
  | 98 => ⟨S1x1024x256, .f32⟩
  | 99 => ⟨S1024x256, .f32⟩
  | 100 => ⟨S8192x256, .f32⟩
  | 101 => ⟨S_, .f32⟩
  | 102 => ⟨S8192, .f32⟩
  | 103 => ⟨S8192x1, .f32⟩
  | 104 => ⟨S256x1024, .f32⟩
  | 105 => ⟨S8192x1024, .f32⟩
  | 106 => ⟨S_, .f32⟩
  | 107 => ⟨S8192x1024, .f32⟩
  | 108 => ⟨S8192x1024, .f32⟩
  | 109 => ⟨S8192x1024, .f32⟩
  | 110 => ⟨S8192x1024, .f32⟩
  | 111 => ⟨S1024x256, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S8192x1024, .i32⟩
  | 118 => ⟨S_, .f32⟩
  | 119 => ⟨S_, .i32⟩
  | 120 => ⟨S8192, .f32⟩
  | 121 => ⟨S8192, .i32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x768, .f32⟩

abbrev hbmTy0_1 (i : Nat) : BufTy := match i % 128 with
  | 0 => ⟨S8192, .i32⟩
  | 1 => ⟨S8192x1, .i32⟩
  | 2 => ⟨S1, .i32⟩
  | 3 => ⟨S_, .i32⟩
  | 4 => ⟨S8192x1, .i32⟩
  | 5 => ⟨S8192x1, .i1⟩
  | 6 => ⟨S1x1, .i32⟩
  | 7 => ⟨S8192x1, .i32⟩
  | 8 => ⟨S8192x1, .i1⟩
  | 9 => ⟨S8192x1, .i1⟩
  | 10 => ⟨S_, .i1⟩
  | 11 => ⟨S8192, .i1⟩
  | 12 => ⟨S8192x256, .f32⟩
  | 13 => ⟨S8192x256, .i1⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S_, .f32⟩
  | 20 => ⟨S_, .f32⟩
  | 21 => ⟨S_, .f32⟩
  | 22 => ⟨S_, .f32⟩
  | 23 => ⟨S8192x256, .f32⟩
  | 24 => ⟨S8192x256, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S8192x256, .f32⟩
  | 33 => ⟨S8192x256, .f32⟩
  | 34 => ⟨S1x1024x256, .f32⟩
  | 35 => ⟨S1024x256, .f32⟩
  | 36 => ⟨S8192x256, .f32⟩
  | 37 => ⟨S_, .f32⟩
  | 38 => ⟨S8192, .f32⟩
  | 39 => ⟨S8192x1, .f32⟩
  | 40 => ⟨S256x1024, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S8192x1024, .f32⟩
  | 47 => ⟨S1024x256, .f32⟩
  | 48 => ⟨S_, .f32⟩
  | 49 => ⟨S1024, .f32⟩
  | 50 => ⟨S1x1024, .f32⟩
  | 51 => ⟨S8192x1024, .f32⟩
  | 52 => ⟨S8192x1024, .f32⟩
  | 53 => ⟨S8192x1024, .i32⟩
  | 54 => ⟨S_, .f32⟩
  | 55 => ⟨S_, .i32⟩
  | 56 => ⟨S8192, .f32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S1, .i32⟩
  | 67 => ⟨S_, .i32⟩
  | 68 => ⟨S8192x1, .i32⟩
  | 69 => ⟨S8192x1, .i1⟩
  | 70 => ⟨S1x1, .i32⟩
  | 71 => ⟨S8192x1, .i32⟩
  | 72 => ⟨S8192x1, .i1⟩
  | 73 => ⟨S8192x1, .i1⟩
  | 74 => ⟨S_, .i1⟩
  | 75 => ⟨S8192, .i1⟩
  | 76 => ⟨S8192x256, .f32⟩
  | 77 => ⟨S8192x256, .i1⟩
  | 78 => ⟨S_, .f32⟩
  | 79 => ⟨S8192x256, .f32⟩
  | 80 => ⟨S8192x256, .f32⟩
  | 81 => ⟨S8192x256, .f32⟩
  | 82 => ⟨S8192x256, .f32⟩
  | 83 => ⟨S_, .f32⟩
  | 84 => ⟨S_, .f32⟩
  | 85 => ⟨S_, .f32⟩
  | 86 => ⟨S_, .f32⟩
  | 87 => ⟨S8192x256, .f32⟩
  | 88 => ⟨S8192x256, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S8192x256, .f32⟩
  | 97 => ⟨S8192x256, .f32⟩
  | 98 => ⟨S1x1024x256, .f32⟩
  | 99 => ⟨S1024x256, .f32⟩
  | 100 => ⟨S8192x256, .f32⟩
  | 101 => ⟨S_, .f32⟩
  | 102 => ⟨S8192, .f32⟩
  | 103 => ⟨S8192x1, .f32⟩
  | 104 => ⟨S256x1024, .f32⟩
  | 105 => ⟨S8192x1024, .f32⟩
  | 106 => ⟨S_, .f32⟩
  | 107 => ⟨S8192x1024, .f32⟩
  | 108 => ⟨S8192x1024, .f32⟩
  | 109 => ⟨S8192x1024, .f32⟩
  | 110 => ⟨S8192x1024, .f32⟩
  | 111 => ⟨S1024x256, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S8192x1024, .i32⟩
  | 118 => ⟨S_, .f32⟩
  | 119 => ⟨S_, .i32⟩
  | 120 => ⟨S8192, .f32⟩
  | 121 => ⟨S8192, .i32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x768, .f32⟩

abbrev hbmTy0_2 (i : Nat) : BufTy := match i % 128 with
  | 0 => ⟨S8192, .i32⟩
  | 1 => ⟨S8192x1, .i32⟩
  | 2 => ⟨S1, .i32⟩
  | 3 => ⟨S_, .i32⟩
  | 4 => ⟨S8192x1, .i32⟩
  | 5 => ⟨S8192x1, .i1⟩
  | 6 => ⟨S1x1, .i32⟩
  | 7 => ⟨S8192x1, .i32⟩
  | 8 => ⟨S8192x1, .i1⟩
  | 9 => ⟨S8192x1, .i1⟩
  | 10 => ⟨S_, .i1⟩
  | 11 => ⟨S8192, .i1⟩
  | 12 => ⟨S8192x256, .f32⟩
  | 13 => ⟨S8192x256, .i1⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S_, .f32⟩
  | 20 => ⟨S_, .f32⟩
  | 21 => ⟨S_, .f32⟩
  | 22 => ⟨S_, .f32⟩
  | 23 => ⟨S8192x256, .f32⟩
  | 24 => ⟨S8192x256, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S8192x256, .f32⟩
  | 33 => ⟨S8192x256, .f32⟩
  | 34 => ⟨S1, .f32⟩
  | 35 => ⟨S1, .f32⟩
  | 36 => ⟨S1, .f32⟩
  | 37 => ⟨S1, .f32⟩
  | 38 => ⟨S4, .f32⟩
  | 39 => ⟨S_, .f32⟩
  | 40 => ⟨S_, .f32⟩
  | 41 => ⟨S_, .f32⟩
  | 42 => ⟨S_, .f32⟩
  | 43 => ⟨S8192x256, .f32⟩
  | 44 => ⟨S8192x256, .f32⟩
  | 45 => ⟨S8192x1024, .f32⟩
  | 46 => ⟨S1x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x2048, .f32⟩
  | 53 => ⟨S1x2048, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S8192x768, .f32⟩
  | 60 => ⟨S1x768, .f32⟩
  | 61 => ⟨S8192x768, .f32⟩
  | 62 => ⟨S8192x768, .f32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_v0 : Ref sig .tc := ⟨.hbm, 53, rfl⟩
abbrev main_call2_cst : Ref sig .tc := ⟨.hbm, 54, rfl⟩
abbrev main_call2_c : Ref sig .tc := ⟨.hbm, 55, rfl⟩
abbrev main_call2_v1_0 : Ref sig .tc := ⟨.hbm, 56, rfl⟩
abbrev main_v31 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_3 : Ref sig .tc := ⟨.hbm, 83, rfl⟩
abbrev main_v35 : Ref sig .tc := ⟨.hbm, 84, rfl⟩
abbrev main_cst_4 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_5 : Ref sig .tc := ⟨.hbm, 89, rfl⟩
abbrev main_v39 : Ref sig .tc := ⟨.hbm, 90, rfl⟩
abbrev main_cst_6 : Ref sig .tc := ⟨.hbm, 91, rfl⟩
abbrev main_v40 : Ref sig .tc := ⟨.hbm, 92, rfl⟩
abbrev main_cst_7 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_8 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_9 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_10 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_call4_v0 : Ref sig .tc := ⟨.hbm, 117, rfl⟩
abbrev main_call4_cst : Ref sig .tc := ⟨.hbm, 118, rfl⟩
abbrev main_call4_c : Ref sig .tc := ⟨.hbm, 119, rfl⟩
abbrev main_call4_v1_0 : Ref sig .tc := ⟨.hbm, 120, rfl⟩
abbrev main_v61 : Ref sig .tc := ⟨.hbm, 121, rfl⟩
abbrev main_call5_c : Ref sig .tc := ⟨.hbm, 122, rfl⟩
abbrev main_call5_v0 : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_c_1 : Ref sig .tc := ⟨.hbm, 130, rfl⟩
abbrev main_call5_c_2 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_3 : Ref sig .tc := ⟨.hbm, 138, rfl⟩
abbrev main_call5_v12 : Ref sig .tc := ⟨.hbm, 139, rfl⟩
abbrev main_call5_v13 : Ref sig .tc := ⟨.hbm, 140, rfl⟩
abbrev main_call5_v14 : Ref sig .tc := ⟨.hbm, 141, rfl⟩
abbrev main_call5_cst : Ref sig .tc := ⟨.hbm, 142, rfl⟩
abbrev main_call5_v15 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_cst_11 : Ref sig .tc := ⟨.hbm, 147, rfl⟩
abbrev main_v65 : Ref sig .tc := ⟨.hbm, 148, rfl⟩
abbrev main_cst_12 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_cst_13 : Ref sig .tc := ⟨.hbm, 153, rfl⟩
abbrev main_v69 : Ref sig .tc := ⟨.hbm, 154, rfl⟩
abbrev main_cst_14 : Ref sig .tc := ⟨.hbm, 155, rfl⟩
abbrev main_v70 : Ref sig .tc := ⟨.hbm, 156, rfl⟩
abbrev main_cst_15 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_cst_16 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_cst_17 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_cst_18 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_call6_v0 : Ref sig .tc := ⟨.hbm, 181, rfl⟩
abbrev main_call6_cst : Ref sig .tc := ⟨.hbm, 182, rfl⟩
abbrev main_call6_c : Ref sig .tc := ⟨.hbm, 183, rfl⟩
abbrev main_call6_v1_0 : Ref sig .tc := ⟨.hbm, 184, rfl⟩
abbrev main_v91 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_c_1 : Ref sig .tc := ⟨.hbm, 194, rfl⟩
abbrev main_call7_c_2 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_3 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_call7_cst : Ref sig .tc := ⟨.hbm, 206, rfl⟩
abbrev main_call7_v15 : Ref sig .tc := ⟨.hbm, 207, rfl⟩
abbrev main_v92 : Ref sig .tc := ⟨.hbm, 208, rfl⟩
abbrev main_v93 : Ref sig .tc := ⟨.hbm, 209, rfl⟩
abbrev main_v94 : Ref sig .tc := ⟨.hbm, 210, rfl⟩
abbrev main_cst_19 : Ref sig .tc := ⟨.hbm, 211, rfl⟩
abbrev main_v95 : Ref sig .tc := ⟨.hbm, 212, rfl⟩
abbrev main_cst_20 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_cst_21 : Ref sig .tc := ⟨.hbm, 217, rfl⟩
abbrev main_v99 : Ref sig .tc := ⟨.hbm, 218, rfl⟩
abbrev main_cst_22 : Ref sig .tc := ⟨.hbm, 219, rfl⟩
abbrev main_v100 : Ref sig .tc := ⟨.hbm, 220, rfl⟩
abbrev main_cst_23 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_cst_24 : Ref sig .tc := ⟨.hbm, 229, rfl⟩
abbrev main_v108 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_cst_25 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_cst_26 : Ref sig .tc := ⟨.hbm, 240, rfl⟩
abbrev main_v117 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_call8_v0 : Ref sig .tc := ⟨.hbm, 245, rfl⟩
abbrev main_call8_cst : Ref sig .tc := ⟨.hbm, 246, rfl⟩
abbrev main_call8_c : Ref sig .tc := ⟨.hbm, 247, rfl⟩
abbrev main_call8_v1_0 : Ref sig .tc := ⟨.hbm, 248, rfl⟩
abbrev main_v121 : Ref sig .tc := ⟨.hbm, 249, rfl⟩
abbrev main_call9_c : Ref sig .tc := ⟨.hbm, 250, rfl⟩
abbrev main_call9_v0 : Ref sig .tc := ⟨.hbm, 251, rfl⟩
abbrev main_call9_v1 : Ref sig .tc := ⟨.hbm, 252, rfl⟩
abbrev main_call9_c_0 : Ref sig .tc := ⟨.hbm, 253, rfl⟩
abbrev main_call9_v2 : Ref sig .tc := ⟨.hbm, 254, rfl⟩
abbrev main_call9_v3 : Ref sig .tc := ⟨.hbm, 255, rfl⟩
abbrev main_call9_v4 : Ref sig .tc := ⟨.hbm, 256, rfl⟩
abbrev main_call9_v5 : Ref sig .tc := ⟨.hbm, 257, rfl⟩
abbrev main_call9_c_1 : Ref sig .tc := ⟨.hbm, 258, rfl⟩
abbrev main_call9_c_2 : Ref sig .tc := ⟨.hbm, 259, rfl⟩
abbrev main_call9_v6 : Ref sig .tc := ⟨.hbm, 260, rfl⟩
abbrev main_call9_v7 : Ref sig .tc := ⟨.hbm, 261, rfl⟩
abbrev main_call9_v8 : Ref sig .tc := ⟨.hbm, 262, rfl⟩
abbrev main_call9_v9 : Ref sig .tc := ⟨.hbm, 263, rfl⟩
abbrev main_call9_v10 : Ref sig .tc := ⟨.hbm, 264, rfl⟩
abbrev main_call9_v11 : Ref sig .tc := ⟨.hbm, 265, rfl⟩
abbrev main_call9_c_3 : Ref sig .tc := ⟨.hbm, 266, rfl⟩
abbrev main_call9_v12 : Ref sig .tc := ⟨.hbm, 267, rfl⟩
abbrev main_call9_v13 : Ref sig .tc := ⟨.hbm, 268, rfl⟩
abbrev main_call9_v14 : Ref sig .tc := ⟨.hbm, 269, rfl⟩
abbrev main_call9_cst : Ref sig .tc := ⟨.hbm, 270, rfl⟩
abbrev main_call9_v15 : Ref sig .tc := ⟨.hbm, 271, rfl⟩
abbrev main_v122 : Ref sig .tc := ⟨.hbm, 272, rfl⟩
abbrev main_v123 : Ref sig .tc := ⟨.hbm, 273, rfl⟩
abbrev main_v124 : Ref sig .tc := ⟨.hbm, 274, rfl⟩
abbrev main_cst_27 : Ref sig .tc := ⟨.hbm, 275, rfl⟩
abbrev main_v125 : Ref sig .tc := ⟨.hbm, 276, rfl⟩
abbrev main_cst_28 : Ref sig .tc := ⟨.hbm, 277, rfl⟩
abbrev main_v126 : Ref sig .tc := ⟨.hbm, 278, rfl⟩
abbrev main_v127 : Ref sig .tc := ⟨.hbm, 279, rfl⟩
abbrev main_v128 : Ref sig .tc := ⟨.hbm, 280, rfl⟩
abbrev main_cst_29 : Ref sig .tc := ⟨.hbm, 281, rfl⟩
abbrev main_v129 : Ref sig .tc := ⟨.hbm, 282, rfl⟩
abbrev main_cst_30 : Ref sig .tc := ⟨.hbm, 283, rfl⟩
abbrev main_v130 : Ref sig .tc := ⟨.hbm, 284, rfl⟩
abbrev main_cst_31 : Ref sig .tc := ⟨.hbm, 285, rfl⟩
abbrev main_v131 : Ref sig .tc := ⟨.hbm, 286, rfl⟩
abbrev main_v132 : Ref sig .tc := ⟨.hbm, 287, rfl⟩
abbrev main_v133 : Ref sig .tc := ⟨.hbm, 288, rfl⟩
abbrev main_v134 : Ref sig .tc := ⟨.hbm, 289, rfl⟩
abbrev main_v135 : Ref sig .tc := ⟨.hbm, 290, rfl⟩
abbrev main_v136 : Ref sig .tc := ⟨.hbm, 291, rfl⟩
abbrev main_v137 : Ref sig .tc := ⟨.hbm, 292, rfl⟩
abbrev main_v138 : Ref sig .tc := ⟨.hbm, 293, rfl⟩
abbrev main_v139 : Ref sig .tc := ⟨.hbm, 294, rfl⟩
abbrev main_cst_32 : Ref sig .tc := ⟨.hbm, 295, rfl⟩
abbrev main_v140 : Ref sig .tc := ⟨.hbm, 296, rfl⟩
abbrev main_cst_33 : Ref sig .tc := ⟨.hbm, 297, rfl⟩
abbrev main_v141 : Ref sig .tc := ⟨.hbm, 298, rfl⟩
abbrev main_v142 : Ref sig .tc := ⟨.hbm, 299, rfl⟩
abbrev main_v143 : Ref sig .tc := ⟨.hbm, 300, rfl⟩
abbrev main_v144 : Ref sig .tc := ⟨.hbm, 301, rfl⟩
abbrev main_v145 : Ref sig .tc := ⟨.hbm, 302, rfl⟩
abbrev main_v146 : Ref sig .tc := ⟨.hbm, 303, rfl⟩
abbrev main_v147 : Ref sig .tc := ⟨.hbm, 304, rfl⟩
abbrev main_call10_cst : Ref sig .tc := ⟨.hbm, 305, rfl⟩
abbrev main_call10_v0 : Ref sig .tc := ⟨.hbm, 306, rfl⟩
abbrev main_v148 : Ref sig .tc := ⟨.hbm, 307, rfl⟩
abbrev main_v149 : Ref sig .tc := ⟨.hbm, 308, rfl⟩
abbrev main_v150 : Ref sig .tc := ⟨.hbm, 309, rfl⟩
abbrev main_v151 : Ref sig .tc := ⟨.hbm, 310, rfl⟩
abbrev main_v152 : Ref sig .tc := ⟨.hbm, 311, rfl⟩
abbrev main_call11_cst : Ref sig .tc := ⟨.hbm, 312, rfl⟩
abbrev main_call11_v0 : Ref sig .tc := ⟨.hbm, 313, rfl⟩
abbrev main_v153 : Ref sig .tc := ⟨.hbm, 314, rfl⟩
abbrev main_v154 : Ref sig .tc := ⟨.hbm, 315, rfl⟩
abbrev main_v155 : Ref sig .tc := ⟨.hbm, 316, rfl⟩
abbrev main_v156 : Ref sig .tc := ⟨.hbm, 317, rfl⟩
abbrev main_v157 : Ref sig .tc := ⟨.hbm, 318, rfl⟩

abbrev nD : Nat := 1
abbrev τ : Topo := Topo.v7x

variable {F : FTy → Type} [FloatOps F]
-- ==== Proof.KernelPoint.lean ====
/-
  What one grid point of the kernel computes, as a function of the blocks that it loads (any number format), and that
  the generated run leaves exactly this in the two output blocks.
-/
module

public import proofs.«01_k».proof.Defs
public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Point

open Cert.KernelIdeal Cert.KernelIdeal.Gen

variable {F : FTy → Type} [FloatOps F]

/-! ## The block's mathematics, in the kernel's own operations -/

/-- The column numbers `0 … 1023` in every row. -/
abbrev columns : IVec S512x1024 32 := iota .tc S512x1024 32 [1] iota_S512x1024_d1_w32

/-- The kernel's distance table of one block: `‖r‖² − 2 r·c + ‖c‖²` for each row `r` and each code `c`. -/
def distances (r : FVec F S512x256 .f32) (cb : FVec F S1024x256 .f32) : FVec F S512x1024 .f32 :=
  addf
    (subf
      (broadcastTo S512x1024
        (shapeCast S512x1 (multiReduction .add [1] S512 (mulf r r) 0x00000000#32 reduces_S512x256_S512 (.inl rfl) rfl)
          shapeCasts_S512_S512x1) broadcasts_S512x1_S512x1024)
      (mulf (broadcast S512x1024 (Scalar.ofBits .f32 0x40000000#32))
        (matmul dot_S512x256_S1024x256_S512x1024_1_1_0_0_n_n none r cb (constant S512x1024 .f32 0x00000000#32))))
    (broadcastTo S512x1024
      (shapeCast S1x1024
        (multiReduction .add [1] S1024 (mulf cb cb) 0x00000000#32 reduces_S1024x256_S1024 (.inl rfl) rfl)
        shapeCasts_S1024_S1x1024) broadcasts_S1x1024_S512x1024)

/-- The row minima of a distance table, spread over the columns. -/
def rowMin (d : FVec F S512x1024 .f32) : FVec F S512x1024 .f32 :=
  broadcastTo S512x1024
    (shapeCast S512x1 (multiReduction .minimumf [1] S512 d 0x7F800000#32 reduces_S512x1024_S512 (.inl rfl) rfl)
      shapeCasts_S512_S512x1) broadcasts_S512x1_S512x1024

/-- The first column at which each row attains its minimum (the least column number among those that do). -/
def firstMin (d : FVec F S512x1024 .f32) : IVec S512 32 :=
  multiReductionI .minsi [1] S512 (select (cmpf .oeq d (rowMin d)) columns (broadcast S512x1024 1024#32)) 2147483647#32
    reduces_S512x1024_S512 rfl

/-- The one-hot rows of the chosen columns. -/
def oneHot (d : FVec F S512x1024 .f32) : FVec F S512x1024 .f32 :=
  sitofp .f32 (extui 32 (cmpi .eq columns
    (broadcastTo S512x1024 (shapeCast S512x1 (firstMin d) shapeCasts_S512_S512x1) broadcasts_S512x1_S512x1024)) natLt_1_32)

/-- The chosen codes: the one-hot rows times the codebook. -/
def chosen (r : FVec F S512x256 .f32) (cb : FVec F S1024x256 .f32) : FVec F S512x256 .f32 :=
  matmul dot_S512x1024_S1024x256_S512x256_1_0_0_1_n_n (some .fp32) (oneHot (distances r cb)) cb
    (constant S512x256 .f32 0x00000000#32)

/-- What is left of the rows after one level. -/
def rest (r : FVec F S512x256 .f32) (cb : FVec F S1024x256 .f32) : FVec F S512x256 .f32 := subf r (chosen r cb)

/-- The sum of the squares of a block. -/
def sumSq (v : FVec F S512x256 .f32) : F .f32 :=
  extractAt ![0, 0, 0]
    (shapeCast S1x1x1
      (multiReduction .add [1, 2] S1 (shapeCast S1x512x256 (mulf v v) shapeCasts_S512x256_S1x512x256) 0x00000000#32
        reduces_S1x512x256_S1 (.inl rfl) rfl) shapeCasts_S1_S1x1x1) inpos_S1x1x1_p0_0_0

/-- Level `l`'s codebook, out of the block of all four. -/
def code (l : ℕ) (cbs : Vec F S4x1024x256 .f32) (h : ∀ a, (![l, 0, 0] : Fin 3 → ℕ) a + S1x1024x256.size a ≤ S4x1024x256.size a) :
    FVec F S1024x256 .f32 :=
  shapeCast S1024x256 (View.ld cbs (Rect.unit (s := S4x1024x256) ![l, 0, 0] S1x1024x256.size h)) shapeCasts_S1x1024x256_S1024x256

section
variable (z : FVec F S512x256 .f32) (cbs : Vec F S4x1024x256 .f32)

/-- The four codebooks. -/
abbrev c0 := code 0 cbs inb_S4x1024x256_S1x1024x256_0_0_0
/-- The second code book. -/
abbrev c1 := code 1 cbs inb_S4x1024x256_S1x1024x256_1_0_0
/-- The third code book. -/
abbrev c2 := code 2 cbs inb_S4x1024x256_S1x1024x256_2_0_0
/-- The fourth code book. -/
abbrev c3 := code 3 cbs inb_S4x1024x256_S1x1024x256_3_0_0

/-- The rows that are left after one, two, three and four levels. -/
def r1 := rest z (c0 cbs)
/-- What the second level leaves. -/
def r2 := rest (r1 z cbs) (c1 cbs)
/-- What the third level leaves. -/
def r3 := rest (r2 z cbs) (c2 cbs)
/-- What the fourth level leaves. -/
def r4 := rest (r3 z cbs) (c3 cbs)

/-- The sum of the four chosen codes, in the kernel's order. -/
def quantised : FVec F S512x256 .f32 :=
  addf (addf (addf (addf (broadcast S512x256 (Scalar.ofBits .f32 0x00000000#32)) (chosen z (c0 cbs)))
    (chosen (r1 z cbs) (c1 cbs))) (chosen (r2 z cbs) (c2 cbs))) (chosen (r3 z cbs) (c3 cbs))

/-- The four levels' sums of squares, added in the kernel's order. -/
def pointLoss : F .f32 :=
  Scalar.addf (Scalar.addf (Scalar.addf (Scalar.addf (Scalar.ofBits .f32 0x00000000#32) (sumSq (r1 z cbs)))
    (sumSq (r2 z cbs))) (sumSq (r3 z cbs))) (sumSq (r4 z cbs))
end

/-- The decoded block that the point stores. -/
def blockY (x0 : Vec F S512x768 .f32) (x1 : Vec F S768x2048 .f32) (x2 : Vec F S1x2048 .f32) (x3 : Vec F S2048x1024 .f32)
    (x4 : Vec F S1x1024 .f32) (x5 : Vec F S1024x256 .f32) (x6 : Vec F S1x256 .f32) (x7 : Vec F S256x1024 .f32)
    (x8 : Vec F S1x1024 .f32) (x9 : Vec F S1024x2048 .f32) (x10 : Vec F S1x2048 .f32) (x11 : Vec F S2048x768 .f32)
    (x12 : Vec F S1x768 .f32) (x13 : Vec F S4x1024x256 .f32) : FVec F S512x768 .f32 :=
  k0_pay25 (quantised (k0_pay1 x0 x1 x2 x3 x4 x5 x6) x13) x7 x8 x9 x10 x11 x12

/-- The sum that the point adds to the loss (before the scale). -/
def blockLoss (x0 : Vec F S512x768 .f32) (x1 : Vec F S768x2048 .f32) (x2 : Vec F S1x2048 .f32) (x3 : Vec F S2048x1024 .f32)
    (x4 : Vec F S1x1024 .f32) (x5 : Vec F S1024x256 .f32) (x6 : Vec F S1x256 .f32) (x13 : Vec F S4x1024x256 .f32) : F .f32 :=
  pointLoss (k0_pay1 x0 x1 x2 x3 x4 x5 x6) x13

/-! ## The generated run leaves it -/

/-- The offsets zero, zero. -/
theorem hz : (![0, 0] : Fin 2 → Nat) = fun _ => 0 := funext fun a => by fin_cases a <;> rfl

section
variable (c : Dev nD) (i : grid0.Coords)
  (a1 : Memref sig .tc .vmem S512x768 .f32) (h1 : a1.IsWhole) (a2 : Memref sig .tc .vmem S768x2048 .f32) (h2 : a2.IsWhole)
  (a3 : Memref sig .tc .vmem S1x2048 .f32) (h3 : a3.IsWhole) (a4 : Memref sig .tc .vmem S2048x1024 .f32) (h4 : a4.IsWhole)
  (a5 : Memref sig .tc .vmem S1x1024 .f32) (h5 : a5.IsWhole) (a6 : Memref sig .tc .vmem S1024x256 .f32) (h6 : a6.IsWhole)
  (a7 : Memref sig .tc .vmem S1x256 .f32) (h7 : a7.IsWhole) (a8 : Memref sig .tc .vmem S256x1024 .f32) (h8 : a8.IsWhole)
  (a9 : Memref sig .tc .vmem S1x1024 .f32) (h9 : a9.IsWhole) (a10 : Memref sig .tc .vmem S1024x2048 .f32) (h10 : a10.IsWhole)
  (a11 : Memref sig .tc .vmem S1x2048 .f32) (h11 : a11.IsWhole) (a12 : Memref sig .tc .vmem S2048x768 .f32) (h12 : a12.IsWhole)
  (a13 : Memref sig .tc .vmem S1x768 .f32) (h13 : a13.IsWhole) (a14 : Memref sig .tc .vmem S4x1024x256 .f32) (h14 : a14.IsWhole)
  (a15 : Memref sig .tc .vmem S512x768 .f32) (h15 : a15.IsWhole) (a16 : Memref sig .tc .vmem S1x1 .f32) (h16 : a16.IsWhole)
  (x0 : Vec F S512x768 .f32) (x1 : Vec F S768x2048 .f32) (x2 : Vec F S1x2048 .f32) (x3 : Vec F S2048x1024 .f32)
  (x4 : Vec F S1x1024 .f32) (x5 : Vec F S1024x256 .f32) (x6 : Vec F S1x256 .f32) (x7 : Vec F S256x1024 .f32)
  (x8 : Vec F S1x1024 .f32) (x9 : Vec F S1024x2048 .f32) (x10 : Vec F S1x2048 .f32) (x11 : Vec F S2048x768 .f32)
  (x12 : Vec F S1x768 .f32) (x13 : Vec F S4x1024x256 .f32) (xo : Vec F S1x1 .f32)

/-- At the first grid point the decoded block is left in the first output's buffer. -/
theorem out_A_14 (hc : cond0_0 i) :
    out0_A_14 c i a1 h1 a2 h2 a3 h3 a4 h4 a5 h5 a6 h6 a7 h7 a8 h8 a9 h9 a10 h10 a11 h11 a12 h12 a13 h13 a14 h14
      a15 h15 a16 h16 hc x0 x1 x2 x3 x4 x5 x6 x7 x8 x9 x10 x11 x12 x13
      = blockY x0 x1 x2 x3 x4 x5 x6 x7 x8 x9 x10 x11 x12 x13 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14
      a15 h15 a16 h16 hc x0 x1 x2 x3 x4 x5 x6 x7 x8 x9 x10 x11 x12 x13)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread, h12.read_unread,
    h13.read_unread, h14.read_unread, h16.read_unread,
    View.ld_unit_zero (S := S512x768) hz, View.ld_unit_zero (S := S768x2048) hz, View.ld_unit_zero (S := S1x2048) hz,
    View.ld_unit_zero (S := S2048x1024) hz, View.ld_unit_zero (S := S1x1024) hz, View.ld_unit_zero (S := S1024x256) hz,
    View.ld_unit_zero (S := S1x256) hz, View.ld_unit_zero (S := S256x1024) hz, View.ld_unit_zero (S := S1024x2048) hz,
    View.ld_unit_zero (S := S2048x768) hz, View.ld_unit_zero (S := S1x768) hz, View.ld_unit_zero (S := S1x1) hz]
  rfl

/-- At every other grid point, too. -/
theorem out_B_14 (hc : ¬cond0_0 i) :
    out0_B_14 c i a1 h1 a2 h2 a3 h3 a4 h4 a5 h5 a6 h6 a7 h7 a8 h8 a9 h9 a10 h10 a11 h11 a12 h12 a13 h13 a14 h14
      a15 h15 a16 h16 hc x0 x1 x2 x3 x4 x5 x6 x7 x8 x9 x10 x11 x12 x13 xo
      = blockY x0 x1 x2 x3 x4 x5 x6 x7 x8 x9 x10 x11 x12 x13 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14
      a15 h15 a16 h16 hc x0 x1 x2 x3 x4 x5 x6 x7 x8 x9 x10 x11 x12 x13 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread, h12.read_unread,
    h13.read_unread, h14.read_unread, h16.read_unread,
    View.ld_unit_zero (S := S512x768) hz, View.ld_unit_zero (S := S768x2048) hz, View.ld_unit_zero (S := S1x2048) hz,
    View.ld_unit_zero (S := S2048x1024) hz, View.ld_unit_zero (S := S1x1024) hz, View.ld_unit_zero (S := S1024x256) hz,
    View.ld_unit_zero (S := S1x256) hz, View.ld_unit_zero (S := S256x1024) hz, View.ld_unit_zero (S := S1024x2048) hz,
    View.ld_unit_zero (S := S2048x768) hz, View.ld_unit_zero (S := S1x768) hz, View.ld_unit_zero (S := S1x1) hz]
  rfl

/-- At the first grid point the loss starts from zero. -/
theorem out_A_15 (hc : cond0_0 i) :
    out0_A_15 c i a1 h1 a2 h2 a3 h3 a4 h4 a5 h5 a6 h6 a7 h7 a8 h8 a9 h9 a10 h10 a11 h11 a12 h12 a13 h13 a14 h14
      a15 h15 a16 h16 hc x0 x1 x2 x3 x4 x5 x6 x7 x8 x9 x10 x11 x12 x13
      = k0_pay27 (blockLoss x0 x1 x2 x3 x4 x5 x6 x13) k0_pay26 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14
      a15 h15 a16 h16 hc x0 x1 x2 x3 x4 x5 x6 x7 x8 x9 x10 x11 x12 x13)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, h7.read_unread, h8.read_unread, h9.read_unread, h10.read_unread, h11.read_unread, h12.read_unread,
    h13.read_unread, h14.read_unread, h16.read_unread,
    View.ld_unit_zero (S := S512x768) hz, View.ld_unit_zero (S := S768x2048) hz, View.ld_unit_zero (S := S1x2048) hz,
    View.ld_unit_zero (S := S2048x1024) hz, View.ld_unit_zero (S := S1x1024) hz, View.ld_unit_zero (S := S1024x256) hz,
    View.ld_unit_zero (S := S1x256) hz, View.ld_unit_zero (S := S256x1024) hz, View.ld_unit_zero (S := S1024x2048) hz,
    View.ld_unit_zero (S := S2048x768) hz, View.ld_unit_zero (S := S1x768) hz, View.ld_unit_zero (S := S1x1) hz]
  rfl

/-- At every other grid point the loss goes on from what the buffer held. -/
theorem out_B_15 (hc : ¬cond0_0 i) :
    out0_B_15 c i a1 h1 a2 h2 a3 h3 a4 h4 a5 h5 a6 h6 a7 h7 a8 h8 a9 h9 a10 h10 a11 h11 a12 h12 a13 h13 a14 h14
      a15 h15 a16 h16 hc x0 x1 x2 x3 x4 x5 x6 x7 x8 x9 x10 x11 x12 x13 xo
      = k0_pay27 (blockLoss x0 x1 x2 x3 x4 x5 x6 x13) xo := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14
      a15 h15 a16 h16 hc x0 x1 x2 x3 x4 x5 x6 x7 x8 x9 x10 x11 x12 x13 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread, h12.read_unread,
    h13.read_unread, h14.read_unread, h16.read_unread,
    View.ld_unit_zero (S := S512x768) hz, View.ld_unit_zero (S := S768x2048) hz, View.ld_unit_zero (S := S1x2048) hz,
    View.ld_unit_zero (S := S2048x1024) hz, View.ld_unit_zero (S := S1x1024) hz, View.ld_unit_zero (S := S1024x256) hz,
    View.ld_unit_zero (S := S1x256) hz, View.ld_unit_zero (S := S256x1024) hz, View.ld_unit_zero (S := S1024x2048) hz,
    View.ld_unit_zero (S := S2048x768) hz, View.ld_unit_zero (S := S1x768) hz, View.ld_unit_zero (S := S1x1) hz]
  rfl

end

end Cert.KernelIdeal.Point

end
-- ==== Proof.KernelBlocks.lean ====
/-
  The kernel's run: the blocks that each grid point loads, in terms of the launch contents, and what the two output
  buffers hold after each point.
-/
module

public import proofs.«01_k».proof.Proof.KernelPoint
public import proofs.«01_k».proof.Proof.Gen.KernelIdeal.Run
public import Idealize.ShloMosaic.Lib.Pointwise.Index

@[expose] public section

noncomputable section

open Idealize.ShloMosaic Idealize.ShloMosaic.TcCoe Idealize.SL.Sem Idealize.ShloMosaic.StableHlo

namespace Cert.KernelIdeal.Blocks

open Cert.KernelIdeal Cert.KernelIdeal.Gen Cert.KernelIdeal.Point

variable {F : FTy → Type} [FloatOps F]
variable (m : (ℓ : Loc nD τ sig) → Buf (Elt F) ℓ) (c : Dev nD) (t : Fin cfg0.N)

/-! ## The arguments' launch contents -/

/-- Argument 0. -/
abbrev a0 : Vec F S8192x768 .f32 := m ((c.tc : Thread nD τ).loc main_arg0)
/-- Argument 1. -/
abbrev a1 : Vec F S768x2048 .f32 := m ((c.tc : Thread nD τ).loc main_arg1)
/-- Argument 2. -/
abbrev a2 : Vec F S2048 .f32 := m ((c.tc : Thread nD τ).loc main_arg2)
/-- Argument 3. -/
abbrev a3 : Vec F S2048x1024 .f32 := m ((c.tc : Thread nD τ).loc main_arg3)
/-- Argument 4. -/
abbrev a4 : Vec F S1024 .f32 := m ((c.tc : Thread nD τ).loc main_arg4)
/-- Argument 5. -/
abbrev a5 : Vec F S1024x256 .f32 := m ((c.tc : Thread nD τ).loc main_arg5)
/-- Argument 6. -/
abbrev a6 : Vec F S256 .f32 := m ((c.tc : Thread nD τ).loc main_arg6)
/-- Argument 7. -/
abbrev a7 : Vec F S256x1024 .f32 := m ((c.tc : Thread nD τ).loc main_arg7)
/-- Argument 8. -/
abbrev a8 : Vec F S1024 .f32 := m ((c.tc : Thread nD τ).loc main_arg8)
/-- Argument 9. -/
abbrev a9 : Vec F S1024x2048 .f32 := m ((c.tc : Thread nD τ).loc main_arg9)
/-- Argument 10. -/
abbrev a10 : Vec F S2048 .f32 := m ((c.tc : Thread nD τ).loc main_arg10)
/-- Argument 11. -/
abbrev a11 : Vec F S2048x768 .f32 := m ((c.tc : Thread nD τ).loc main_arg11)
/-- Argument 12. -/
abbrev a12 : Vec F S768 .f32 := m ((c.tc : Thread nD τ).loc main_arg12)
/-- Argument 13. -/
abbrev a13 : Vec F S4x1024x256 .f32 := m ((c.tc : Thread nD τ).loc main_arg13)

/-! ## The biases, reshaped before the kernel runs -/

/-- Each bias as the one row that the kernel loads. -/
abbrev b2 : Vec F S1x2048 .f32 := shapeCast S1x2048 (a2 m c) shapeCasts_S2048_S1x2048
/-- The bias of argument 4 as one row. -/
abbrev b4 : Vec F S1x1024 .f32 := shapeCast S1x1024 (a4 m c) shapeCasts_S1024_S1x1024
/-- The bias of argument 6 as one row. -/
abbrev b6 : Vec F S1x256 .f32 := shapeCast S1x256 (a6 m c) shapeCasts_S256_S1x256
/-- The bias of argument 8 as one row. -/
abbrev b8 : Vec F S1x1024 .f32 := shapeCast S1x1024 (a8 m c) shapeCasts_S1024_S1x1024
/-- The bias of argument 10 as one row. -/
abbrev b10 : Vec F S1x2048 .f32 := shapeCast S1x2048 (a10 m c) shapeCasts_S2048_S1x2048
/-- The bias of argument 12 as one row. -/
abbrev b12 : Vec F S1x768 .f32 := shapeCast S1x768 (a12 m c) shapeCasts_S768_S1x768

/-- The biases' arrays as the kernel finds them. -/
theorem V_biases : V m c main_v0 = b2 m c ∧ V m c main_v1 = b4 m c ∧ V m c main_v2 = b6 m c
    ∧ V m c main_v3 = b8 m c ∧ V m c main_v4 = b10 m c ∧ V m c main_v5 = b12 m c := by
  refine ⟨?_, ?_, ?_, ?_, ?_, ?_⟩ <;>
  · dsimp only [V, V0, hostOps0]
    simp only [List.flatten_cons, List.flatten_nil, List.append_nil]
    after_results <;> rfl

/-! ## The blocks -/

/-- An offset list whose block indices are all zero. -/
theorem off_zero {n : ℕ} {k : Fin n → ℕ} (h : ∀ a, k a = 0) (s : Fin n → ℕ) : (fun a => k a * s a) = fun _ => 0 :=
  funext fun a => by rw [h a, Nat.zero_mul]

/-! Every window but the first loads its whole array at every point. -/

/-- Block 1 is the whole array, at every step. -/
theorem iblk1 : (iblk m c 1 t : Vec F S768x2048 .f32) = a1 m c :=
  (Memref.read_access_unit_zero (Elt F) main_arg1 (off_zero (k := win0_1.index t) (fun a => by fin_cases a <;> rfl) _) _ _).trans
    (V_main_arg1 m c)
/-- Block 2 is the whole array, at every step. -/
theorem iblk2 : (iblk m c 2 t : Vec F S1x2048 .f32) = b2 m c :=
  (Memref.read_access_unit_zero (Elt F) main_v0 (off_zero (k := win0_2.index t) (fun a => by fin_cases a <;> rfl) _) _ _).trans
    ((V_biases m c).1)
/-- Block 3 is the whole array, at every step. -/
theorem iblk3 : (iblk m c 3 t : Vec F S2048x1024 .f32) = a3 m c :=
  (Memref.read_access_unit_zero (Elt F) main_arg3 (off_zero (k := win0_3.index t) (fun a => by fin_cases a <;> rfl) _) _ _).trans
    (V_main_arg3 m c)
/-- Block 4 is the whole array, at every step. -/
theorem iblk4 : (iblk m c 4 t : Vec F S1x1024 .f32) = b4 m c :=
  (Memref.read_access_unit_zero (Elt F) main_v1 (off_zero (k := win0_4.index t) (fun a => by fin_cases a <;> rfl) _) _ _).trans
    ((V_biases m c).2.1)
/-- Block 5 is the whole array, at every step. -/
theorem iblk5 : (iblk m c 5 t : Vec F S1024x256 .f32) = a5 m c :=
  (Memref.read_access_unit_zero (Elt F) main_arg5 (off_zero (k := win0_5.index t) (fun a => by fin_cases a <;> rfl) _) _ _).trans
    (V_main_arg5 m c)
/-- Block 6 is the whole array, at every step. -/
theorem iblk6 : (iblk m c 6 t : Vec F S1x256 .f32) = b6 m c :=
  (Memref.read_access_unit_zero (Elt F) main_v2 (off_zero (k := win0_6.index t) (fun a => by fin_cases a <;> rfl) _) _ _).trans
    ((V_biases m c).2.2.1)
/-- Block 7 is the whole array, at every step. -/
theorem iblk7 : (iblk m c 7 t : Vec F S256x1024 .f32) = a7 m c :=
  (Memref.read_access_unit_zero (Elt F) main_arg7 (off_zero (k := win0_7.index t) (fun a => by fin_cases a <;> rfl) _) _ _).trans
    (V_main_arg7 m c)
/-- Block 8 is the whole array, at every step. -/
theorem iblk8 : (iblk m c 8 t : Vec F S1x1024 .f32) = b8 m c :=
  (Memref.read_access_unit_zero (Elt F) main_v3 (off_zero (k := win0_8.index t) (fun a => by fin_cases a <;> rfl) _) _ _).trans
    ((V_biases m c).2.2.2.1)
/-- Block 9 is the whole array, at every step. -/
theorem iblk9 : (iblk m c 9 t : Vec F S1024x2048 .f32) = a9 m c :=
  (Memref.read_access_unit_zero (Elt F) main_arg9 (off_zero (k := win0_9.index t) (fun a => by fin_cases a <;> rfl) _) _ _).trans
    (V_main_arg9 m c)
/-- Block 10 is the whole array, at every step. -/
theorem iblk10 : (iblk m c 10 t : Vec F S1x2048 .f32) = b10 m c :=
  (Memref.read_access_unit_zero (Elt F) main_v4 (off_zero (k := win0_10.index t) (fun a => by fin_cases a <;> rfl) _) _ _).trans
    ((V_biases m c).2.2.2.2.1)
/-- Block 11 is the whole array, at every step. -/
theorem iblk11 : (iblk m c 11 t : Vec F S2048x768 .f32) = a11 m c :=
  (Memref.read_access_unit_zero (Elt F) main_arg11 (off_zero (k := win0_11.index t) (fun a => by fin_cases a <;> rfl) _) _ _).trans
    (V_main_arg11 m c)
/-- Block 12 is the whole array, at every step. -/
theorem iblk12 : (iblk m c 12 t : Vec F S1x768 .f32) = b12 m c :=
  (Memref.read_access_unit_zero (Elt F) main_v5 (off_zero (k := win0_12.index t) (fun a => by fin_cases a <;> rfl) _) _ _).trans
    ((V_biases m c).2.2.2.2.2)
/-- Block 13 is the whole array, at every step. -/
theorem iblk13 : (iblk m c 13 t : Vec F S4x1024x256 .f32) = a13 m c :=
  (Memref.read_access_unit_zero (Elt F) main_arg13 (off_zero (k := win0_13.index t) (fun a => by fin_cases a <;> rfl) _) _ _).trans
    (V_main_arg13 m c)

/-- The block index of the first window, and of the first output's, is the point's number. -/
theorem index_rows : ∀ t : Fin cfg0.N, win0_0.index t 0 = t.val ∧ win0_0.index t 1 = 0 ∧ win0_14.index t 0 = t.val
    ∧ win0_14.index t 1 = 0 :=
  (by decide +kernel : ∀ t : Fin grid0.N, win0_0.index t 0 = t.val ∧ win0_0.index t 1 = 0 ∧ win0_14.index t 0 = t.val
    ∧ win0_14.index t 1 = 0)

/-- There are sixteen points. -/
theorem lt16 : t.val < 16 := Nat.lt_of_lt_of_eq t.isLt N_0

/-- Row `p` of block `t` is row `512 t + p` of the array. -/
def rowAt (p : Fin 512) : Fin 8192 := ⟨512 * t.val + p.val, by have := lt16 t; omega⟩

/-- The block of the rows at step `t` is rows `512 t` to `512 t + 511`. -/
theorem iblk0 (p : Fin 512) (j : Fin 768) : (iblk m c 0 t : Vec F S512x768 .f32) (ix2 p j) = a0 m c (ix2 (rowAt t p) j) := by
  unfold iblk
  rw [View.read_apply]
  refine Eq.trans ?_ (congrFun (V_main_arg0 m c) (ix2 (rowAt t p) j))
  show V m c main_arg0 _ = V m c main_arg0 _
  congr 1
  funext a
  apply Fin.ext
  match a with
  | ⟨0, _⟩ =>
    show win0_0.index t 0 * 512 + 1 * p.val = 512 * t.val + p.val
    rw [(index_rows t).1]; omega
  | ⟨1, _⟩ =>
    show win0_0.index t 1 * 768 + 1 * j.val = j.val
    rw [(index_rows t).2.1]; omega

/-! ## What the output buffers hold -/

/-- The rows that point `t` encodes. -/
abbrev x : Vec F S512x768 .f32 := iblk m c 0 t

/-- The decoded block of point `t`. -/
def outY : FVec F S512x768 .f32 :=
  blockY (x m c t) (a1 m c) (b2 m c) (a3 m c) (b4 m c) (a5 m c) (b6 m c) (a7 m c) (b8 m c) (a9 m c) (b10 m c) (a11 m c)
    (b12 m c) (a13 m c)

/-- What point `t` adds to the loss, before the scale. -/
def outLoss : F .f32 :=
  blockLoss (x m c t) (a1 m c) (b2 m c) (a3 m c) (b4 m c) (a5 m c) (b6 m c) (a13 m c)

/-- The running loss after point `n`. -/
def chain : (n : ℕ) → n < cfg0.N → Vec F S1x1 .f32
  | 0, h => k0_pay27 (outLoss m c ⟨0, h⟩) k0_pay26
  | n + 1, h => k0_pay27 (outLoss m c ⟨n + 1, h⟩) (chain n (Nat.lt_of_succ_lt h))

/-- What step `t` leaves in the first output is the decoded block. -/
theorem outsAt_one : (outsAt0 m c t.val t.isLt).1 = outY m c t := by
  by_cases h0 : t.val % 16 = 0
  · rw [outsAt0_A m c t h0]
    dsimp only
    rw [out_A_14]
    rw [iblk1, iblk2, iblk3, iblk4, iblk5, iblk6, iblk7, iblk8, iblk9, iblk10, iblk11, iblk12, iblk13]
    rfl
  · rw [outsAt0_B m c t h0]
    dsimp only
    rw [out_B_14]
    rw [iblk1, iblk2, iblk3, iblk4, iblk5, iblk6, iblk7, iblk8, iblk9, iblk10, iblk11, iblk12, iblk13]
    rfl

/-- What step `n` leaves in the second output is the running loss. -/
theorem outsAt_two : ∀ (n : ℕ) (h : n < cfg0.N), (outsAt0 m c n h).2 = chain m c n h
  | 0, h => by
    rw [show outsAt0 m c 0 h = _ from outsAt0_A m c ⟨0, h⟩ rfl]
    dsimp only
    rw [out_A_15]
    rw [iblk1, iblk2, iblk3, iblk4, iblk5, iblk6, iblk13]
    rfl
  | n + 1, h => by
    have hN : cfg0.N = 16 := N_0
    have hB : ¬(⟨n + 1, h⟩ : Fin cfg0.N).val % 16 = 0 := by dsimp only; omega
    rw [show outsAt0 m c (n + 1) h = _ from outsAt0_B m c ⟨n + 1, h⟩ hB]
    dsimp only
    rw [out_B_15]
    rw [iblk1, iblk2, iblk3, iblk4, iblk5, iblk6, iblk13]
    exact congrArg (k0_pay27 (outLoss m c ⟨n + 1, h⟩)) (outsAt_two n (Nat.lt_of_succ_lt h))

/-! ## The result arrays -/

/-- The first result: row `512 t + p` is row `p` of the block of point `t`. -/
def finalY : Vec F S8192x768 .f32 := fun i =>
  outY m c ⟨(i 0).val / 512, by have : (i 0).val < 8192 := (i 0).isLt; rw [show cfg0.N = 16 from N_0]; omega⟩
    (ix2 ⟨(i 0).val % 512, Nat.mod_lt _ (by decide)⟩ (i 1))

/-- Row `p` of block `t` of the first result. -/
theorem finalY_row (p : Fin 512) (j : Fin 768) : finalY m c (ix2 (rowAt t p) j) = outY m c t (ix2 p j) := by
  have e1 : (512 * t.val + p.val) / 512 = t.val := by omega
  have e2 : (512 * t.val + p.val) % 512 = p.val := by omega
  show outY m c ⟨(512 * t.val + p.val) / 512, _⟩ (ix2 ⟨(512 * t.val + p.val) % 512, _⟩ j) = _
  simp only [e1, e2]

/-- Each point writes its block of the first result. -/
theorem flushedY (_ : (cfg0.win 14).flush t = true) :
    (dats m 0 c).flushed 14 t = ((cfg0.win 14).blk t).view.read (Elt F) (finalY m c) := by
  show (cfg0.win 14).cut (grid0.coords t) ((dats m 0 c).after 14 t) = _
  rw [after0_14, outsAt_one]
  funext i
  rw [View.read_apply]
  obtain ⟨p, j, rfl⟩ : ∃ (p : Fin 512) (j : Fin 768), i = ix2 p j := ⟨i 0, i 1, funext fun a => by fin_cases a <;> rfl⟩
  refine Eq.trans ?_ ((finalY_row m c t p j).symm.trans ?_)
  · rfl
  · congr 1
    funext a
    apply Fin.ext
    match a with
    | ⟨0, _⟩ =>
      show 512 * t.val + p.val = win0_14.index t 0 * 512 + 1 * p.val
      rw [(index_rows t).2.2.1]; omega
    | ⟨1, _⟩ =>
      show j.val = win0_14.index t 1 * 768 + 1 * j.val
      rw [(index_rows t).2.2.2]; omega

/-- So the first result is the array of all blocks. -/
theorem arrY : (dats m 0 c).arrAt 14 cfg0.N = finalY m c :=
  (dats m 0 c).arrAt_eq_of_cover 14 (finalY m c) (flushedY m c) fun i => by
    have h0 : (i 0 : Nat) < 8192 := (i 0).isLt
    have h1 : (i 1 : Nat) < 768 := (i 1).isLt
    let t : Fin cfg0.N := ⟨(i 0 : Nat) / 512, by rw [show cfg0.N = 16 from N_0]; omega⟩
    refine ⟨t, flush0_14 t, ?_⟩
    show i ∈ ((View.whole main_v6_0).slice (win0_14.rect t)).set
    rw [View.set_slice_whole, Rect.mem_set_unit]
    intro a
    match a with
    | ⟨0, _⟩ =>
      show win0_14.index t 0 * 512 ≤ (i 0 : Nat) ∧ (i 0 : Nat) < win0_14.index t 0 * 512 + 512
      rw [(index_rows t).2.2.1]
      show (i 0 : Nat) / 512 * 512 ≤ (i 0 : Nat) ∧ (i 0 : Nat) < (i 0 : Nat) / 512 * 512 + 512
      omega
    | ⟨1, _⟩ =>
      show win0_14.index t 1 * 768 ≤ (i 1 : Nat) ∧ (i 1 : Nat) < win0_14.index t 1 * 768 + 768
      rw [(index_rows t).2.2.2]; omega

/-- The second result: the loss after the last point. -/
abbrev finalLoss : Vec F S1x1 .f32 := chain m c 15 (by rw [show cfg0.N = 16 from N_0]; decide)

/-- Only the last point writes the loss. -/
theorem flushedLoss (hf : (cfg0.win 15).flush t = true) :
    (dats m 0 c).flushed 15 t = ((cfg0.win 15).blk t).view.read (Elt F) (finalLoss m c) := by
  have h15 : t.val = 15 := by have := (flush0_15 t).mp hf; have := lt16 t; omega
  obtain rfl : t = t0_15 := Fin.ext h15
  show (cfg0.win 15).cut (grid0.coords t0_15) ((dats m 0 c).after 15 t0_15) = _
  rw [after0_15, outsAt_two]
  have hz' : (fun a => win0_15.index t0_15 a * main_v6_1.ty.shape.size a) = fun _ => 0 :=
    off_zero (fun a => by fin_cases a <;> rfl) _
  exact (Memref.read_access_unit_zero (Elt F) main_v6_1 hz' (fun a => by rw [congrFun hz' a]; simp) (finalLoss m c)).symm

/-- So the second result is the loss after the last point. -/
theorem arrLoss : (dats m 0 c).arrAt 15 cfg0.N = finalLoss m c :=
  (dats m 0 c).arrAt_eq_of_cover 15 (finalLoss m c) (flushedLoss m c) fun i => by
    refine ⟨t0_15, (flush0_15 t0_15).mpr rfl, ?_⟩
    show i ∈ ((View.whole main_v6_1).slice (win0_15.rect t0_15)).set
    rw [View.set_slice_whole, Rect.mem_set_unit]
    intro a
    have h : ∀ a : Fin 2, win0_15.index t0_15 a = 0 := fun a => by fin_cases a <;> rfl
    have h0 : (i 0 : Nat) < 1 := (i 0).isLt
    have h1 : (i 1 : Nat) < 1 := (i 1).isLt
    match a with
    | ⟨0, _⟩ =>
      show win0_15.index t0_15 0 * 1 ≤ (i 0 : Nat) ∧ (i 0 : Nat) < win0_15.index t0_15 0 * 1 + 1
      rw [h]; omega
    | ⟨1, _⟩ =>
      show win0_15.index t0_15 1 * 1 ≤ (i 1 : Nat) ∧ (i 1 : Nat) < win0_15.index t0_15 1 * 1 + 1
      rw [h]; omega

end Cert.KernelIdeal.Blocks
-- ==== Proof.Model.lean ====
/-
  The mathematics of one row, over the extended reals: the dense layers, the nearest code, and the four quantiser levels.
-/
module

public import Idealize.ShloMosaic.PureOps.Ideal
public import Idealize.ShloMosaic.PureOps.Ideal.Laws
public import Idealize.ShloMosaic.Lib.WordCmp
public import Idealize.ShloMosaic.Lib.Pointwise.Index

@[expose] public section

noncomputable section

namespace Cert.Model

open Idealize.ShloMosaic

/-! ## The nearest code -/

/-- `k` is the first index at which `d` is least. -/
def IsNearest {n : ℕ} (d : Fin n → EReal) (k : Fin n) : Prop := (∀ j, d k ≤ d j) ∧ ∀ j, j < k → d k < d j

/-- There is one nearest index only. -/
theorem IsNearest.unique {n : ℕ} {d : Fin n → EReal} {k l : Fin n} (hk : IsNearest d k) (hl : IsNearest d l) : k = l := by
  rcases lt_trichotomy k l with h | h | h
  · exact absurd (hl.2 k h) (not_lt.mpr (hk.1 l))
  · exact h
  · exact absurd (hk.2 l h) (not_lt.mpr (hl.1 k))

/-- There is a nearest index. -/
theorem exists_nearest {n : ℕ} (hn : 0 < n) (d : Fin n → EReal) : ∃ k, IsNearest d k := by
  classical
  haveI : Nonempty (Fin n) := ⟨⟨0, hn⟩⟩
  obtain ⟨m, hm⟩ := Finite.exists_min d
  have hne : (Finset.univ.filter fun k => ∀ j, d k ≤ d j).Nonempty := ⟨m, by simpa using hm⟩
  refine ⟨(Finset.univ.filter fun k => ∀ j, d k ≤ d j).min' hne, ?_, fun j hj => ?_⟩
  · exact (Finset.mem_filter.mp (Finset.min'_mem _ hne)).2
  · have hmin := (Finset.mem_filter.mp (Finset.min'_mem _ hne)).2
    refine lt_of_le_of_ne (hmin j) fun he => ?_
    exact absurd (Finset.min'_le _ j (Finset.mem_filter.mpr ⟨Finset.mem_univ _, fun i => he ▸ hmin i⟩)) (not_le.mpr hj)

/-- The first index at which `d` is least. -/
def nearest (d : Fin 1024 → EReal) : Fin 1024 := (exists_nearest (by decide) d).choose

/-- The nearest index is nearest. -/
theorem nearest_spec (d : Fin 1024 → EReal) : IsNearest d (nearest d) := (exists_nearest (by decide) d).choose_spec

/-- An index that is nearest is the nearest index. -/
theorem eq_nearest {d : Fin 1024 → EReal} {k : Fin 1024} (h : IsNearest d k) : k = nearest d := h.unique (nearest_spec d)

/-- The pattern of plus infinity. -/
theorem ofBits_top : Ideal.ofBits .f32 0x7F800000#32 = (⊤ : EReal) := by simp [Ideal.ofBits, Ideal.ieee]

/-- The fold of `min` over the distances is the nearest code's distance. -/
theorem fold_min (d : Fin 1024 → EReal) : Finset.univ.fold min (⊤ : EReal) d = d (nearest d) :=
  le_antisymm ((Finset.fold_min_le _).mpr (.inr ⟨nearest d, Finset.mem_univ _, le_rfl⟩))
    ((Finset.le_fold_min _).mpr ⟨le_top, fun j _ => (nearest_spec d).1 j⟩)

/-- The signed minimum of two words below `2 ^ 31`. -/
theorem minsi_ofNat {a b : ℕ} (ha : a < 2 ^ 31) (hb : b < 2 ^ 31) :
    IntOp.minsi (BitVec.ofNat 32 a) (BitVec.ofNat 32 b) = BitVec.ofNat 32 (min a b) := by
  have h : (BitVec.ofNat 32 a).slt (BitVec.ofNat 32 b) = decide (a < b) := by
    rw [BitVec.slt, BitVec.toInt_eq_toNat_of_lt, BitVec.toInt_eq_toNat_of_lt] <;>
      simp only [BitVec.toNat_ofNat] <;> first | (congr 1; simp; omega) | omega
  rw [IntOp.minsi, h]
  by_cases hab : a < b
  · simp [hab, min_eq_left hab.le]
  · simp [hab, min_eq_right (not_lt.mp hab)]

/-- The fold of the signed minimum over words below `2 ^ 31`. -/
theorem fold_minsi {n : ℕ} (g : Fin n → ℕ) (hg : ∀ x, g x < 2 ^ 31) (s : Finset (Fin n)) :
    s.fold IntOp.minsi 2147483647#32 (fun x => BitVec.ofNat 32 (g x)) = BitVec.ofNat 32 (s.fold min 2147483647 g)
      ∧ s.fold min 2147483647 g < 2 ^ 31 := by
  classical
  induction s using Finset.induction_on with
  | empty => exact ⟨rfl, by simp⟩
  | insert a s ha ih =>
    rw [Finset.fold_insert ha, Finset.fold_insert ha, ih.1, minsi_ofNat (hg a) ih.2]
    exact ⟨rfl, lt_of_le_of_lt (min_le_left _ _) (hg a)⟩

/-- The least of the column numbers at which the distance is least, 1024 standing for the others, is the nearest. -/
theorem fold_columns (d : Fin 1024 → EReal) :
    Finset.univ.fold IntOp.minsi 2147483647#32
        (fun x => if d x = d (nearest d) then BitVec.ofNat 32 x.val else 1024#32)
      = BitVec.ofNat 32 (nearest d).val := by
  have e : (fun x : Fin 1024 => if d x = d (nearest d) then BitVec.ofNat 32 x.val else 1024#32)
      = fun x => BitVec.ofNat 32 (if d x = d (nearest d) then x.val else 1024) := by
    funext x; split <;> rfl
  rw [e, (fold_minsi _ (fun x => by split <;> omega) _).1]
  congr 1
  refine le_antisymm ((Finset.fold_min_le _).mpr (.inr ⟨nearest d, Finset.mem_univ _, by simp⟩))
    ((Finset.le_fold_min _).mpr ⟨by omega, fun j _ => ?_⟩)
  split
  · next h =>
    by_contra hlt
    exact absurd h (ne_of_gt ((nearest_spec d).2 j (by simpa using hlt)))
  · omega

/-! ## One level -/

/-- A row, a code book, and the stack of the four code books. -/
abbrev Row : Type := Fin 256 → EReal
@[inherit_doc Row] abbrev Book : Type := Fin 1024 → Row
@[inherit_doc Row] abbrev Books : Type := Fin 4 → Book

/-- The squared distance of a row to each code, multiplied out. -/
def dist (r : Row) (c : Book) (k : Fin 1024) : EReal :=
  (∑ i, r i * r i) - Ideal.ofBits .f32 0x40000000#32 * (∑ i, r i * c k i) + ∑ i, c k i * c k i

/-- The code nearest to the row. -/
def pick (r : Row) (c : Book) : Row := c (nearest (dist r c))

/-- What the level leaves of the row. -/
def rest (r : Row) (c : Book) : Row := fun i => r i - pick r c i

/-! ## The four levels -/

/-- What is left of the row after one, two, three and four levels. -/
def rest1 (z : Row) (b : Books) : Row := rest z (b 0)
@[inherit_doc rest1] def rest2 (z : Row) (b : Books) : Row := rest (rest1 z b) (b 1)
@[inherit_doc rest1] def rest3 (z : Row) (b : Books) : Row := rest (rest2 z b) (b 2)
@[inherit_doc rest1] def rest4 (z : Row) (b : Books) : Row := rest (rest3 z b) (b 3)

/-- The sum of the four codes. -/
def quant (z : Row) (b : Books) : Row := fun i =>
  pick z (b 0) i + pick (rest1 z b) (b 1) i + pick (rest2 z b) (b 2) i + pick (rest3 z b) (b 3) i

/-- The sum of the squares of a row. -/
def sq (r : Row) : EReal := ∑ i, r i * r i

/-! ## Rows of arrays -/

/-- A row of an array, all its rows, the entries of an array of one axis, and the code books of the stack. -/
abbrev rowOf {n c : ℕ} (v : FVec Ideal ⟨2, ![n, c]⟩ .f32) (p : Fin n) : Fin c → EReal := fun i => v (ix2 p i)
@[inherit_doc rowOf] abbrev matOf {n c : ℕ} (v : FVec Ideal ⟨2, ![n, c]⟩ .f32) : Fin n → Fin c → EReal :=
  fun k i => v (ix2 k i)
@[inherit_doc rowOf] abbrev vecOf {n : ℕ} (v : FVec Ideal ⟨1, ![n]⟩ .f32) : Fin n → EReal := fun i => v (ix1 i)
@[inherit_doc rowOf] abbrev booksOf (v : FVec Ideal ⟨3, ![4, 1024, 256]⟩ .f32) : Books := fun l k i => v (ix3 l k i)

/-! ## The layers -/

/-- A dense layer on one row. -/
def dense {k n : ℕ} (v : Fin k → EReal) (w : Fin k → Fin n → EReal) (b : Fin n → EReal) (j : Fin n) : EReal :=
  ∑ i, v i * w i j + b j

/-- `max(x, 0)` on one row. -/
def relu {n : ℕ} (v : Fin n → EReal) (j : Fin n) : EReal := max (v j) 0

/-- Three dense layers with `relu` between them. -/
def mlp {a b c d : ℕ} (x : Fin a → EReal) (w1 : Fin a → Fin b → EReal) (b1 : Fin b → EReal) (w2 : Fin b → Fin c → EReal)
    (b2 : Fin c → EReal) (w3 : Fin c → Fin d → EReal) (b3 : Fin d → EReal) : Fin d → EReal :=
  dense (relu (dense (relu (dense x w1 b1)) w2 b2)) w3 b3

end Cert.Model
-- ==== Proof.KernelRows.lean ====
/-
  The kernel's block, row by row, over the extended reals: each row of a block is what the row's mathematics makes of it.
-/
module

public import proofs.«01_k».proof.Proof.KernelPoint
public import proofs.«01_k».proof.Proof.Model
public import Idealize.ShloMosaic.Lib.Pointwise

@[expose] public section

set_option maxRecDepth 16384

noncomputable section

namespace Cert.KernelIdeal.Point

open Cert.KernelIdeal Cert.KernelIdeal.Gen Cert.Model Idealize.ShloMosaic

variable (r : FVec Ideal S512x256 .f32) (cb : FVec Ideal S1024x256 .f32) (cbs : FVec Ideal S4x1024x256 .f32)
  (p : Fin 512)

/-! ## One level -/

/-- The distances of row `p`. -/
theorem distances_row (k : Fin 1024) : distances r cb (ix2 p k) = Model.dist (rowOf r p) (matOf cb) k := by
  pointwise [distances, Model.dist]

/-- The index that the kernel takes is that of the nearest code word. -/
theorem firstMin_row : firstMin (distances r cb) (ix1 p)
    = BitVec.ofNat 32 (Model.nearest (Model.dist (rowOf r p) (matOf cb))).val := by
  pointwise [firstMin, rowMin, columns]
  simp only [distances_row, Model.ofBits_top, Model.fold_min]
  exact Model.fold_columns _

/-- The one-hot row is one at the nearest code word and zero elsewhere. -/
theorem oneHot_row (k : Fin 1024) : oneHot (distances r cb) (ix2 p k)
    = if k = Model.nearest (Model.dist (rowOf r p) (matOf cb)) then 1 else 0 := by
  pointwise [oneHot, columns]
  rw [firstMin_row]
  generalize Model.nearest (Model.dist (rowOf r p) (matOf cb)) = m
  have h : IntOp.cmpi .eq (BitVec.ofNat 32 k.val) (BitVec.ofNat 32 m.val) = BitVec.ofBool (decide (k = m)) := by
    have : (BitVec.ofNat 32 k.val = BitVec.ofNat 32 m.val) ↔ k = m := by
      rw [← BitVec.toNat_inj, BitVec.toNat_ofNat, BitVec.toNat_ofNat, Nat.mod_eq_of_lt (by omega),
        Nat.mod_eq_of_lt (by omega), Fin.ext_iff]
    refine congrArg BitVec.ofBool (Bool.eq_iff_iff.mpr ?_)
    rw [beq_iff_eq, decide_eq_true_iff]
    exact this
  rw [h]
  by_cases hk : k = m <;> simp [hk, FloatOps.sitofp]

/-- The product with the one-hot row is the nearest code word. -/
theorem chosen_row (j : Fin 256) : chosen r cb (ix2 p j) = Model.pick (rowOf r p) (matOf cb) j := by
  pointwise [chosen]
  simp only [oneHot_row, ite_mul, one_mul, zero_mul, Finset.sum_ite_eq', Finset.mem_univ, if_true]
  rfl

/-- What a level leaves of row `p`. -/
theorem rest_row : rowOf (Point.rest r cb) p = Model.rest (rowOf r p) (matOf cb) := by
  funext j
  pointwise [Point.rest, rowOf]
  rw [chosen_row]
  rfl

/-- The sum of squares of a block, row by row. -/
theorem sumSq_eq : sumSq r = ∑ p : Fin 512, Model.sq (rowOf r p) := by
  pointwise [sumSq, Model.sq]

/-- The first code book, as a matrix. -/
theorem matOf_c0 : matOf (c0 cbs) = booksOf cbs 0 := by funext k i; pointwise [c0, code]
/-- The second code book, as a matrix. -/
theorem matOf_c1 : matOf (c1 cbs) = booksOf cbs 1 := by funext k i; pointwise [c1, code]
/-- The third code book, as a matrix. -/
theorem matOf_c2 : matOf (c2 cbs) = booksOf cbs 2 := by funext k i; pointwise [c2, code]
/-- The fourth code book, as a matrix. -/
theorem matOf_c3 : matOf (c3 cbs) = booksOf cbs 3 := by funext k i; pointwise [c3, code]

/-! ## The four levels -/

/-- Row `p` after the first level. -/
theorem r1_row : rowOf (r1 r cbs) p = Model.rest1 (rowOf r p) (booksOf cbs) := by
  rw [r1, rest_row, matOf_c0]; rfl
/-- Row `p` after the second level. -/
theorem r2_row : rowOf (r2 r cbs) p = Model.rest2 (rowOf r p) (booksOf cbs) := by
  rw [r2, rest_row, matOf_c1, r1_row]; rfl
/-- Row `p` after the third level. -/
theorem r3_row : rowOf (r3 r cbs) p = Model.rest3 (rowOf r p) (booksOf cbs) := by
  rw [r3, rest_row, matOf_c2, r2_row]; rfl
/-- Row `p` after the fourth level. -/
theorem r4_row : rowOf (r4 r cbs) p = Model.rest4 (rowOf r p) (booksOf cbs) := by
  rw [r4, rest_row, matOf_c3, r3_row]; rfl

/-- Row `p`, quantised. -/
theorem quantised_row : rowOf (quantised r cbs) p = Model.quant (rowOf r p) (booksOf cbs) := by
  funext j
  pointwise [rowOf, quantised]
  rw [chosen_row, chosen_row, chosen_row, chosen_row, matOf_c0, matOf_c1, matOf_c2, matOf_c3, r1_row, r2_row, r3_row]
  rfl

/-- The block's sum of squares over the four levels. -/
theorem pointLoss_eq : pointLoss r cbs
    = (∑ p, Model.sq (Model.rest1 (rowOf r p) (booksOf cbs))) + (∑ p, Model.sq (Model.rest2 (rowOf r p) (booksOf cbs)))
      + (∑ p, Model.sq (Model.rest3 (rowOf r p) (booksOf cbs)))
      + ∑ p, Model.sq (Model.rest4 (rowOf r p) (booksOf cbs)) := by
  pointwise [pointLoss]
  simp only [sumSq_eq, r1_row, r2_row, r3_row, r4_row]

/-! ## The layers -/

/-- Row `p` of a block, encoded. -/
theorem enc_row (x0 : FVec Ideal S512x768 .f32) (x1 : FVec Ideal S768x2048 .f32) (x2 : FVec Ideal S1x2048 .f32)
    (x3 : FVec Ideal S2048x1024 .f32) (x4 : FVec Ideal S1x1024 .f32) (x5 : FVec Ideal S1024x256 .f32)
    (x6 : FVec Ideal S1x256 .f32) :
    rowOf (k0_pay1 x0 x1 x2 x3 x4 x5 x6) p
      = Model.mlp (rowOf x0 p) (matOf x1) (rowOf x2 0) (matOf x3) (rowOf x4 0) (matOf x5) (rowOf x6 0) := by
  funext j
  pointwise [rowOf, k0_pay1, Model.mlp, Model.dense, Model.relu]

/-- Row `p` of a block, decoded. -/
theorem dec_row (q : FVec Ideal S512x256 .f32) (x7 : FVec Ideal S256x1024 .f32) (x8 : FVec Ideal S1x1024 .f32)
    (x9 : FVec Ideal S1024x2048 .f32) (x10 : FVec Ideal S1x2048 .f32) (x11 : FVec Ideal S2048x768 .f32)
    (x12 : FVec Ideal S1x768 .f32) :
    rowOf (k0_pay25 q x7 x8 x9 x10 x11 x12) p
      = Model.mlp (rowOf q p) (matOf x7) (rowOf x8 0) (matOf x9) (rowOf x10 0) (matOf x11) (rowOf x12 0) := by
  funext j
  pointwise [rowOf, k0_pay25, Model.mlp, Model.dense, Model.relu]

end Cert.KernelIdeal.Point
-- ==== Proof.Finite.lean ====
/-
  Finite entries: what the dense layers make of real numbers is real. And the loss: the two ways of adding it up agree, on all
  extended reals.
-/
module

public import proofs.«01_k».proof.Proof.Model

@[expose] public section

noncomputable section

namespace Cert.Model

open Idealize.ShloMosaic

/-- The value is a real number. -/
def IsReal (x : EReal) : Prop := ∃ r : ℝ, x = r

/-- The sum of real numbers is real. -/
theorem IsReal.add {x y : EReal} : IsReal x → IsReal y → IsReal (x + y) := by
  rintro ⟨a, rfl⟩ ⟨b, rfl⟩; exact ⟨a + b, (EReal.coe_add a b).symm⟩

/-- The product of real numbers is real. -/
theorem IsReal.mul {x y : EReal} : IsReal x → IsReal y → IsReal (x * y) := by
  rintro ⟨a, rfl⟩ ⟨b, rfl⟩; exact ⟨a * b, (EReal.coe_mul a b).symm⟩

/-- Zero is real. -/
theorem IsReal.zero : IsReal 0 := ⟨0, rfl⟩

/-- The greater of two real numbers is real. -/
theorem IsReal.max {x y : EReal} (hx : IsReal x) (hy : IsReal y) : IsReal (Max.max x y) := by
  rcases max_choice x y with h | h <;> rw [h] <;> assumption

/-- A finite sum of real numbers is real. -/
theorem IsReal.sum {n : ℕ} {f : Fin n → EReal} (h : ∀ i, IsReal (f i)) : IsReal (∑ i, f i) :=
  Finset.sum_induction f IsReal (fun _ _ => IsReal.add) IsReal.zero fun i _ => h i

/-- A value whose absolute value is below plus infinity is real. -/
theorem isReal_of_abs_lt {x : EReal} (h : Max.max x (-x) < ⊤) : IsReal x := by
  induction x using EReal.rec with
  | bot => simp at h
  | top => simp at h
  | coe r => exact ⟨r, rfl⟩

/-! ## The row's mathematics -/

/-- All entries are real. -/
abbrev RealRow {n : ℕ} (v : Fin n → EReal) : Prop := ∀ i, IsReal (v i)

/-- A dense layer makes real entries of real entries. -/
theorem dense_real {k n : ℕ} {v : Fin k → EReal} {w : Fin k → Fin n → EReal} {b : Fin n → EReal} (hv : RealRow v)
    (hw : ∀ i, RealRow (w i)) (hb : RealRow b) : RealRow (dense v w b) :=
  fun j => (IsReal.sum fun i => (hv i).mul (hw i j)).add (hb j)

/-- So does the cut at zero. -/
theorem relu_real {n : ℕ} {v : Fin n → EReal} (hv : RealRow v) : RealRow (relu v) := fun j => (hv j).max .zero

/-- So do three dense layers. -/
theorem mlp_real {a b c d : ℕ} {x : Fin a → EReal} {w1 : Fin a → Fin b → EReal} {b1 : Fin b → EReal}
    {w2 : Fin b → Fin c → EReal} {b2 : Fin c → EReal} {w3 : Fin c → Fin d → EReal} {b3 : Fin d → EReal} (hx : RealRow x)
    (hw1 : ∀ i, RealRow (w1 i)) (hb1 : RealRow b1) (hw2 : ∀ i, RealRow (w2 i)) (hb2 : RealRow b2)
    (hw3 : ∀ i, RealRow (w3 i)) (hb3 : RealRow b3) : RealRow (mlp x w1 b1 w2 b2 w3 b3) :=
  dense_real (relu_real (dense_real (relu_real (dense_real hx hw1 hb1)) hw2 hb2)) hw3 hb3

/-! ## The loss -/

/-- The scale of the kernel's loss, and the number of entries, the weight and the number of levels of the reference's. -/
theorem scale_eq : Ideal.ofBits .f32 0x34200000#32 = ((5 / 33554432 : ℝ) : EReal) := by
  simp [Ideal.ofBits, Ideal.ieee]
  rw [← EReal.coe_mul]
  norm_num
/-- The number of entries, 8192 · 256. -/
theorem entries_eq : Ideal.ofBits .f32 0x4A000000#32 = ((2097152 : ℝ) : EReal) := by
  simp [Ideal.ofBits, Ideal.ieee]
  rw [← EReal.coe_mul]
  norm_num
/-- The weight of the commitment term. -/
theorem weight_eq : Ideal.ofBits .f32 0x3E800000#32 = ((1 / 4 : ℝ) : EReal) := by
  simp [Ideal.ofBits, Ideal.ieee]
  rw [← EReal.coe_mul]
  norm_num
/-- The number of levels. -/
theorem four_eq : Ideal.ofBits .f32 0x40800000#32 = ((4 : ℝ) : EReal) := by
  simp [Ideal.ofBits, Ideal.ieee]
  rw [← EReal.coe_mul]
  norm_num

/-- Sixteen blocks of 512 rows are 8192 rows. -/
theorem sum_blocks (f : Fin 8192 → EReal) (row : Fin 16 → Fin 512 → Fin 8192) (h : ∀ t p, (row t p).val = 512 * t.val + p.val) :
    ∑ t, ∑ p, f (row t p) = ∑ i, f i := by
  rw [← Fintype.sum_prod_type' (fun t p => f (row t p))]
  refine Fintype.sum_equiv (finProdFinEquiv (m := 16) (n := 512)) _ f fun x => congrArg f (Fin.ext ?_)
  rw [h]
  show _ = x.2.val + 512 * x.1.val
  omega

/-- One level's loss of the total `T` of its squares: the mean, and a quarter of the mean. -/
def levelLoss (T : EReal) : EReal :=
  Ideal.div T (Ideal.ofBits .f32 0x4A000000#32)
    + Ideal.ofBits .f32 0x3E800000#32 * Ideal.div T (Ideal.ofBits .f32 0x4A000000#32)

/-- The mean of the four levels' losses. -/
def meanLoss (T1 T2 T3 T4 : EReal) : EReal :=
  Ideal.div (levelLoss T1 + levelLoss T2 + levelLoss T3 + levelLoss T4) (Ideal.ofBits .f32 0x40800000#32)

/-- What a block of 512 rows adds to the kernel's loss, before the scale. -/
def blockSum (z : Fin 512 → Row) (b : Books) : EReal :=
  (∑ p, sq (rest1 (z p) b)) + (∑ p, sq (rest2 (z p) b)) + (∑ p, sq (rest3 (z p) b)) + ∑ p, sq (rest4 (z p) b)

/-- A level's loss is a multiple of the total. -/
theorem levelLoss_eq (T : EReal) : levelLoss T = T * ((5 / 8388608 : ℝ) : EReal) := by
  have e : ((5 / 8388608 : ℝ) : EReal) = ((1 / 2097152 : ℝ) : EReal) + ((1 / 4 : ℝ) : EReal) * ((1 / 2097152 : ℝ) : EReal) := by
    rw [← EReal.coe_mul, ← EReal.coe_add]
    congr 1
    norm_num
  have hu : (0 : EReal) ≤ ((1 / 2097152 : ℝ) : EReal) := EReal.coe_nonneg.2 (by norm_num)
  have hq : (0 : EReal) ≤ ((1 / 4 : ℝ) : EReal) * ((1 / 2097152 : ℝ) : EReal) := by
    rw [← EReal.coe_mul]
    exact EReal.coe_nonneg.2 (by norm_num)
  rw [levelLoss, entries_eq, weight_eq, Ideal.div_coe (by norm_num), e, EReal.left_distrib_of_nonneg hu hq, mul_left_comm]

/-- A nonnegative real factor distributes over a sum. -/
theorem add_mul_real {r : ℝ} (hr : 0 ≤ r) (x y : EReal) : (x + y) * (r : EReal) = x * r + y * r :=
  EReal.right_distrib_of_nonneg_of_ne_top (EReal.coe_nonneg.2 hr) (EReal.coe_ne_top r) x y

/-- The reference's loss is a multiple of the total of all levels. -/
theorem meanLoss_eq (T1 T2 T3 T4 : EReal) :
    meanLoss T1 T2 T3 T4 = (T1 + T2 + T3 + T4) * ((5 / 33554432 : ℝ) : EReal) := by
  have h : (0 : ℝ) ≤ 5 / 8388608 := by norm_num
  rw [meanLoss, levelLoss_eq, levelLoss_eq, levelLoss_eq, levelLoss_eq, four_eq, Ideal.div_coe (by norm_num),
    ← add_mul_real h, ← add_mul_real h, ← add_mul_real h, mul_assoc, ← EReal.coe_mul]
  norm_num

/-- A nonnegative real factor distributes over a sum of blocks. -/
theorem sum_mul_real {n : ℕ} {r : ℝ} (hr : 0 ≤ r) (f : Fin n → EReal) : ∑ t, f t * (r : EReal) = (∑ t, f t) * (r : EReal) := by
  classical
  induction (Finset.univ : Finset (Fin n)) using Finset.induction_on with
  | empty => simp
  | insert a s ha ih => rw [Finset.sum_insert ha, Finset.sum_insert ha, ih, add_mul_real hr]

/-- The scaled block sums add up to the mean of the levels' losses. -/
theorem loss_eq (z : Fin 8192 → Row) (b : Books) (row : Fin 16 → Fin 512 → Fin 8192)
    (h : ∀ t p, (row t p).val = 512 * t.val + p.val) :
    ∑ t, blockSum (fun p => z (row t p)) b * Ideal.ofBits .f32 0x34200000#32
      = meanLoss (∑ i, sq (rest1 (z i) b)) (∑ i, sq (rest2 (z i) b)) (∑ i, sq (rest3 (z i) b))
          (∑ i, sq (rest4 (z i) b)) := by
  rw [scale_eq, sum_mul_real (by norm_num), meanLoss_eq]
  simp only [blockSum]
  rw [Finset.sum_add_distrib, Finset.sum_add_distrib, Finset.sum_add_distrib,
    sum_blocks (fun i => sq (rest1 (z i) b)) row h, sum_blocks (fun i => sq (rest2 (z i) b)) row h,
    sum_blocks (fun i => sq (rest3 (z i) b)) row h, sum_blocks (fun i => sq (rest4 (z i) b)) row h]

/-- The square of a difference, either way. -/
theorem sub_sq (x y : EReal) : (x - y) * (x - y) = (y - x) * (y - x) := by
  induction x using EReal.rec <;> induction y using EReal.rec
  case coe.coe a b =>
    rw [← EReal.coe_sub, ← EReal.coe_sub, ← EReal.coe_mul, ← EReal.coe_mul]
    congr 1
    ring
  all_goals simp

end Cert.Model
-- ==== Proof.KernelValue.lean ====
/-
  The kernel's results over the extended reals: each row of the first result, and the loss as a sum over the blocks.
-/
module

public import proofs.«01_k».proof.Proof.KernelBlocks
public import proofs.«01_k».proof.Proof.KernelRows
public import proofs.«01_k».proof.Proof.Finite

@[expose] public section

set_option maxRecDepth 16384

noncomputable section

namespace Cert.KernelIdeal.Blocks

open Cert.KernelIdeal Cert.KernelIdeal.Gen Cert.KernelIdeal.Point Cert.Model Idealize.ShloMosaic

variable (m : (ℓ : Loc nD τ sig) → Buf (Elt Ideal) ℓ) (c : Dev nD) (t : Fin cfg0.N)

/-- Row `i`, encoded. -/
def encoded (i : Fin 8192) : Row :=
  mlp (rowOf (a0 m c) i) (matOf (a1 m c)) (vecOf (a2 m c)) (matOf (a3 m c)) (vecOf (a4 m c)) (matOf (a5 m c)) (vecOf (a6 m c))

/-- Row `i` of the first result, of the quantised row. -/
def decoded (q : Row) : Fin 768 → EReal :=
  mlp q (matOf (a7 m c)) (vecOf (a8 m c)) (matOf (a9 m c)) (vecOf (a10 m c)) (matOf (a11 m c)) (vecOf (a12 m c))

/-! ## The biases -/

/-- The only row of the bias of argument 2. -/
theorem b2_row : rowOf (b2 m c) 0 = vecOf (a2 m c) := by funext j; pointwise [rowOf, vecOf]
/-- The only row of the bias of argument 4. -/
theorem b4_row : rowOf (b4 m c) 0 = vecOf (a4 m c) := by funext j; pointwise [rowOf, vecOf]
/-- The only row of the bias of argument 6. -/
theorem b6_row : rowOf (b6 m c) 0 = vecOf (a6 m c) := by funext j; pointwise [rowOf, vecOf]
/-- The only row of the bias of argument 8. -/
theorem b8_row : rowOf (b8 m c) 0 = vecOf (a8 m c) := by funext j; pointwise [rowOf, vecOf]
/-- The only row of the bias of argument 10. -/
theorem b10_row : rowOf (b10 m c) 0 = vecOf (a10 m c) := by funext j; pointwise [rowOf, vecOf]
/-- The only row of the bias of argument 12. -/
theorem b12_row : rowOf (b12 m c) 0 = vecOf (a12 m c) := by funext j; pointwise [rowOf, vecOf]

/-! ## The rows -/

/-- Row `p` of block `t`. -/
theorem x_row (p : Fin 512) : rowOf (x m c t) p = rowOf (a0 m c) (rowAt t p) := funext fun j => iblk0 m c t p j

/-- Row `p` of block `t`, encoded. -/
theorem encoded_row (p : Fin 512) :
    rowOf (k0_pay1 (x m c t) (a1 m c) (b2 m c) (a3 m c) (b4 m c) (a5 m c) (b6 m c)) p = encoded m c (rowAt t p) := by
  rw [enc_row, x_row, b2_row, b4_row, b6_row, encoded]

/-- Row `p` of block `t` of the first result. -/
theorem outY_row (p : Fin 512) : rowOf (outY m c t) p = decoded m c (quant (encoded m c (rowAt t p)) (booksOf (a13 m c))) := by
  rw [outY, blockY, dec_row, quantised_row, encoded_row, b8_row, b10_row, b12_row, decoded]

/-- Every row of the array is a row of a block. -/
theorem exists_rowAt (i : Fin 8192) : ∃ t p, rowAt t p = i :=
  ⟨⟨i.val / 512, by rw [show cfg0.N = 16 from N_0]; omega⟩, ⟨i.val % 512, Nat.mod_lt _ (by decide)⟩,
    Fin.ext (by show 512 * (i.val / 512) + i.val % 512 = i.val; omega)⟩

/-- Row `i` of the first result. -/
theorem finalY_eq (i : Fin 8192) : rowOf (finalY m c) i = decoded m c (quant (encoded m c i) (booksOf (a13 m c))) := by
  obtain ⟨t, p, rfl⟩ := exists_rowAt i
  exact (funext fun j => finalY_row m c t p j).trans (outY_row m c t p)

/-! ## The loss -/

/-- Block `t`'s sum of squares. -/
theorem outLoss_eq : outLoss m c t = blockSum (fun p => encoded m c (rowAt t p)) (booksOf (a13 m c)) :=
  (pointLoss_eq _ _).trans (congrArg (fun z => blockSum z (booksOf (a13 m c))) (funext (encoded_row m c t)))

/-- A step adds its scaled sum of squares to the running loss. -/
theorem pay27_apply (v : EReal) (l : FVec Ideal S1x1 .f32) :
    k0_pay27 (F := Ideal) v l (ix2 0 0) = l (ix2 0 0) + v * Ideal.ofBits .f32 0x34200000#32 := by
  pointwise [k0_pay27]

/-- The running loss starts at zero. -/
theorem pay26_apply : k0_pay26 (F := Ideal) (ix2 0 0) = 0 := by pointwise [k0_pay26]

/-- A running sum is the sum of its terms. -/
theorem running_sum {N : ℕ} (r f : (n : ℕ) → n < N → EReal) (h0 : ∀ h, r 0 h = f 0 h)
    (hs : ∀ n (h : n + 1 < N), r (n + 1) h = r n (Nat.lt_of_succ_lt h) + f (n + 1) h) (n : ℕ) :
    ∀ h : n < N, r n h = ∑ t : Fin (n + 1), f t.val (Nat.lt_of_lt_of_le t.isLt h) := by
  induction n with
  | zero => intro h; rw [h0, Fin.sum_univ_one]; rfl
  | succ n ih => intro h; rw [hs, ih]; exact (Fin.sum_univ_castSucc fun t : Fin (n + 2) => f t.val (Nat.lt_of_lt_of_le t.isLt h)).symm

/-- The running loss is the sum of the blocks' scaled sums. -/
theorem chain_eq (n : ℕ) (h : n < cfg0.N) : chain m c n h (ix2 0 0)
    = ∑ t : Fin (n + 1), outLoss m c ⟨t.val, Nat.lt_of_lt_of_le t.isLt h⟩ * Ideal.ofBits .f32 0x34200000#32 :=
  running_sum (fun n h => chain m c n h (ix2 0 0)) (fun n h => outLoss m c ⟨n, h⟩ * Ideal.ofBits .f32 0x34200000#32)
    (fun h => by rw [chain, pay27_apply, pay26_apply, zero_add])
    (fun n h => by rw [chain, pay27_apply]) n h

/-- The second result. -/
theorem finalLoss_eq : finalLoss m c (ix2 0 0)
    = ∑ t : Fin 16, blockSum (fun p => encoded m c (rowAt ⟨t.val, by rw [show cfg0.N = 16 from N_0]; exact t.isLt⟩ p))
        (booksOf (a13 m c)) * Ideal.ofBits .f32 0x34200000#32 :=
  (chain_eq m c 15 _).trans (Finset.sum_congr rfl fun t _ => by rw [outLoss_eq])

end Cert.KernelIdeal.Blocks
-- ==== Proof.RefOps.lean ====
/-
  The reference's operations as lists.  The four quantiser levels are the same operations over four sets of buffers,
      so
  each stage of a level is listed once, over the buffers that it names: the distances of all rows to the level's
      codes,
  the index of the nearest code, the codes at these indices, and the level's loss with the next residual.
-/
module

public import proofs.«01_k».proof.Proof.Gen.ReferenceIdeal
public import Idealize.ShloMosaic.Lib.StableHlo.Run

@[expose] public section

noncomputable section

namespace Cert.ReferenceIdeal.Ops

open Cert.ReferenceIdeal Cert.ReferenceIdeal.Gen Idealize.ShloMosaic Idealize.ShloMosaic.TcCoe Idealize.SL.Sem
open Idealize.ShloMosaic.StableHlo

variable {F : FTy → Type} [FloatOps F]

/-- The buffers of one level's distances. -/
structure DistBufs where
  slab : TRef sig ⟨S1x1024x256, .f32⟩
  code : TRef sig ⟨S1024x256, .f32⟩
  sq : TRef sig ⟨S8192x256, .f32⟩
  z : TRef sig ⟨S_, .f32⟩
  rs : TRef sig ⟨S8192, .f32⟩
  rcol : TRef sig ⟨S8192x1, .f32⟩
  codeT : TRef sig ⟨S256x1024, .f32⟩
  dot : TRef sig ⟨S8192x1024, .f32⟩
  two : TRef sig ⟨S_, .f32⟩
  twos : TRef sig ⟨S8192x1024, .f32⟩
  dbl : TRef sig ⟨S8192x1024, .f32⟩
  rcols : TRef sig ⟨S8192x1024, .f32⟩
  part : TRef sig ⟨S8192x1024, .f32⟩
  csq : TRef sig ⟨S1024x256, .f32⟩
  cz : TRef sig ⟨S_, .f32⟩
  cs : TRef sig ⟨S1024, .f32⟩
  crow : TRef sig ⟨S1x1024, .f32⟩
  crows : TRef sig ⟨S8192x1024, .f32⟩
  dist : TRef sig ⟨S8192x1024, .f32⟩

/-- The buffers of one level's loss, next residual and running sum. -/
structure StepBufs where
  d : TRef sig ⟨S8192x256, .f32⟩
  dsq : TRef sig ⟨S8192x256, .f32⟩
  z1 : TRef sig ⟨S_, .f32⟩
  s1 : TRef sig ⟨S_, .f32⟩
  n1 : TRef sig ⟨S_, .f32⟩
  m1 : TRef sig ⟨S_, .f32⟩
  e : TRef sig ⟨S8192x256, .f32⟩
  esq : TRef sig ⟨S8192x256, .f32⟩
  z2 : TRef sig ⟨S_, .f32⟩
  s2 : TRef sig ⟨S_, .f32⟩
  n2 : TRef sig ⟨S_, .f32⟩
  m2 : TRef sig ⟨S_, .f32⟩
  quarter : TRef sig ⟨S_, .f32⟩
  scaled : TRef sig ⟨S_, .f32⟩
  loss : TRef sig ⟨S_, .f32⟩
  rest : TRef sig ⟨S8192x256, .f32⟩
  acc : TRef sig ⟨S8192x256, .f32⟩

/-- The buffers of one level: its distances, the index of the nearest code, the codes taken, its loss and residual. -/
structure LevelBufs where
  far : DistBufs
  near : fn_argmin.Bufs
  take : fn_take.Bufs
  step : StepBufs

/-- One level's distances: the squared norm of a row, less twice its products with the codes, plus their squared norms. -/
def distOps (cut : (⟨S4x1024x256, .f32⟩ : BufTy).Contents (Elt F) → (⟨S1x1024x256, .f32⟩ : BufTy).Contents (Elt F))
    (r : TRef sig ⟨S8192x256, .f32⟩) (cbs : TRef sig ⟨S4x1024x256, .f32⟩) (φ : DistBufs) : List (HloOp τ sig (Elt F))
        :=
  [ TRef.unary cbs φ.slab cut,
    TRef.reshape φ.slab φ.code rfl shapeCasts_S1x1024x256_S1024x256,
    TRef.binary r r φ.sq mulf,
    TRef.nullary φ.z (constant S_ .f32 0x00000000#32),
    TRef.binary φ.sq φ.z φ.rs (fun x v => Host.reduceAdd x v reducesTo_S8192x256_S8192_d1 h_S_),
    TRef.unary φ.rs φ.rcol (broadcastInDim S8192x1 ![0] bcast_S8192_S8192x1_0),
    TRef.unary φ.code φ.codeT (transpose S256x1024 [1, 0] · transposes_S1024x256_S256x1024_1_0),
    TRef.binary r φ.codeT φ.dot (fun l r => Host.dotGeneral dot_S8192x256_S256x1024_S8192x1024_1_0_0_1_n_n none l r),
    TRef.nullary φ.two (constant S_ .f32 0x40000000#32),
    TRef.unary φ.two φ.twos (broadcastInDim S8192x1024 ![] bcast_S_S8192x1024),
    TRef.binary φ.twos φ.dot φ.dbl mulf,
    TRef.unary φ.rcol φ.rcols (broadcastInDim S8192x1024 ![0, 1] bcast_S8192x1_S8192x1024_0_1),
    TRef.binary φ.rcols φ.dbl φ.part subf,
    TRef.binary φ.code φ.code φ.csq mulf,
    TRef.nullary φ.cz (constant S_ .f32 0x00000000#32),
    TRef.binary φ.csq φ.cz φ.cs (fun x v => Host.reduceAdd x v reducesTo_S1024x256_S1024_d1 h_S_),
    TRef.unary φ.cs φ.crow (broadcastInDim S1x1024 ![1] bcast_S1024_S1x1024_1),
    TRef.unary φ.crow φ.crows (broadcastInDim S8192x1024 ![0, 1] bcast_S1x1024_S8192x1024_0_1),
    TRef.binary φ.part φ.crows φ.dist addf ]

/-- One level's loss, the residual less the codes taken, and the sum of the codes taken so far. -/
def stepOps (r q a : TRef sig ⟨S8192x256, .f32⟩) (φ : StepBufs) : List (HloOp τ sig (Elt F)) :=
  [ TRef.binary r q φ.d subf,
    TRef.binary φ.d φ.d φ.dsq mulf,
    TRef.nullary φ.z1 (constant S_ .f32 0x00000000#32),
    TRef.binary φ.dsq φ.z1 φ.s1 (fun x v => Host.reduceAdd x v reducesTo_S8192x256_S_d0_1 h_S_),
    TRef.nullary φ.n1 (constant S_ .f32 0x4A000000#32),
    TRef.binary φ.s1 φ.n1 φ.m1 Host.divf,
    TRef.binary q r φ.e subf,
    TRef.binary φ.e φ.e φ.esq mulf,
    TRef.nullary φ.z2 (constant S_ .f32 0x00000000#32),
    TRef.binary φ.esq φ.z2 φ.s2 (fun x v => Host.reduceAdd x v reducesTo_S8192x256_S_d0_1 h_S_),
    TRef.nullary φ.n2 (constant S_ .f32 0x4A000000#32),
    TRef.binary φ.s2 φ.n2 φ.m2 Host.divf,
    TRef.nullary φ.quarter (constant S_ .f32 0x3E800000#32),
    TRef.binary φ.quarter φ.m1 φ.scaled mulf,
    TRef.binary φ.m2 φ.scaled φ.loss addf,
    TRef.binary r q φ.rest subf,
    TRef.binary a q φ.acc addf ]

/-- `max(x, 0)`, 2048 columns. -/
def reluOps (arg0 : TRef sig ⟨S8192x2048, .f32⟩) (φ : fn_relu.Bufs) : List (HloOp τ sig (Elt F)) :=
  [ TRef.nullary φ.cst (constant S_ .f32 0x00000000#32),
    TRef.unary φ.cst φ.v0 (broadcastInDim S8192x2048 ![] bcast_S_S8192x2048),
    TRef.binary arg0 φ.v0 φ.v1 maximumf ]

/-- `max(x, 0)`, 1024 columns. -/
def relu_0Ops (arg0 : TRef sig ⟨S8192x1024, .f32⟩) (φ : fn_relu_0.Bufs) : List (HloOp τ sig (Elt F)) :=
  [ TRef.nullary φ.cst (constant S_ .f32 0x00000000#32),
    TRef.unary φ.cst φ.v0 (broadcastInDim S8192x1024 ![] bcast_S_S8192x1024),
    TRef.binary arg0 φ.v0 φ.v1 maximumf ]

/-- The index of the least entry of each row. -/
def argminOps (arg0 : TRef sig ⟨S8192x1024, .f32⟩) (φ : fn_argmin.Bufs) : List (HloOp τ sig (Elt F)) :=
  [ TRef.nullary φ.v0 (iotaInDim S8192x1024 32 1),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v
        reducesTo_S8192x1024_S8192_d1 h_S_ j).1),
    TRef.quaternary arg0 φ.v0 φ.cst φ.c φ.v1_1 (fun x y u v j => (Host.argReduce reducer_argmin_f32_i32 x y u v
        reducesTo_S8192x1024_S8192_d1 h_S_ j).2) ]

/-- The codes at the given indices. -/
def takeOps (arg0 : TRef sig ⟨S1024x256, .f32⟩) (arg1 : TRef sig ⟨S8192, .i32⟩) (φ : fn_take.Bufs) : List (HloOp τ
    sig (Elt F)) :=
  [ TRef.nullary φ.c (constantI S_ 32 0#32),
    TRef.unary φ.c φ.v0 (broadcastInDim S8192 ![] bcast_S_S8192),
    TRef.binary arg1 φ.v0 φ.v1 (cmpi .slt),
    TRef.nullary φ.c_0 (constantI S_ 32 1024#32),
    TRef.unary φ.c_0 φ.v2 (broadcastInDim S8192 ![] bcast_S_S8192),
    TRef.binary arg1 φ.v2 φ.v3 addi,
    TRef.ternary φ.v1 φ.v3 arg1 φ.call0.v0 select,
    TRef.unary φ.call0.v0 φ.v5 (broadcastInDim S8192x1 ![0] bcast_S8192_S8192x1_0),
    TRef.nullary φ.c_1 (constantI S1 32 1023#32),
    TRef.nullary φ.c_2 (constantI S_ 32 0#32),
    TRef.unary φ.c_2 φ.v6 (broadcastInDim S8192x1 ![] bcast_S_S8192x1),
    TRef.binary φ.v5 φ.v6 φ.v7 (cmpi .sge),
    TRef.unary φ.c_1 φ.v8 (broadcastInDim S1x1 ![1] bcast_S1_S1x1_1),
    TRef.unary φ.v8 φ.v9 (broadcastInDim S8192x1 ![0, 1] bcast_S1x1_S8192x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8192x1_S8192_d1 h_S_),
    TRef.binary arg0 φ.v5 φ.v13 (fun x i => Host.gather gather_S1024x256_S8192x1_S8192x256_1_0_n_n_0_1_1256 x i),
    TRef.unary φ.v12 φ.v14 (broadcastInDim S8192x256 ![0] bcast_S8192_S8192x256_0),
    TRef.nullary φ.cst (constant S_ .f32 0x7FC00000#32),
    TRef.unary φ.cst φ.v15 (broadcastInDim S8192x256 ![] bcast_S_S8192x256),
    TRef.ternary φ.v14 φ.v13 φ.v15 φ.v16 select ]

/-- One level: from the residual `r` and the sum `a` of the codes taken before. -/
def levelOps (cut : (⟨S4x1024x256, .f32⟩ : BufTy).Contents (Elt F) → (⟨S1x1024x256, .f32⟩ : BufTy).Contents (Elt F))
    (r a : TRef sig ⟨S8192x256, .f32⟩) (φ : LevelBufs) : List (HloOp τ sig (Elt F)) :=
  distOps cut r (.of main_arg13) φ.far ++ (argminOps φ.far.dist φ.near ++
    (takeOps φ.far.code φ.near.v1_1 φ.take ++ stepOps r φ.take.v16 a φ.step))

/-- The buffers of level 0. -/
abbrev bufs0 : LevelBufs where
  far := ⟨.of main_v15, .of main_v16, .of main_v17, .of main_cst_0, .of main_v18, .of main_v19, .of main_v20, .of
      main_v21, .of main_cst_1, .of main_v22, .of main_v23, .of main_v24, .of main_v25, .of main_v26, .of main_cst_2,
      .of main_v27, .of main_v28, .of main_v29, .of main_v30⟩
  near := main_call2
  take := main_call3
  step := ⟨.of main_v33, .of main_v34, .of main_cst_3, .of main_v35, .of main_cst_4, .of main_v36, .of main_v37, .of
      main_v38, .of main_cst_5, .of main_v39, .of main_cst_6, .of main_v40, .of main_cst_7, .of main_v41, .of
      main_v42, .of main_v43, .of main_v44⟩

/-- The buffers of level 1. -/
abbrev bufs1 : LevelBufs where
  far := ⟨.of main_v45, .of main_v46, .of main_v47, .of main_cst_8, .of main_v48, .of main_v49, .of main_v50, .of
      main_v51, .of main_cst_9, .of main_v52, .of main_v53, .of main_v54, .of main_v55, .of main_v56, .of
      main_cst_10, .of main_v57, .of main_v58, .of main_v59, .of main_v60⟩
  near := main_call4
  take := main_call5
  step := ⟨.of main_v63, .of main_v64, .of main_cst_11, .of main_v65, .of main_cst_12, .of main_v66, .of main_v67,
      .of main_v68, .of main_cst_13, .of main_v69, .of main_cst_14, .of main_v70, .of main_cst_15, .of main_v71, .of
      main_v72, .of main_v73, .of main_v74⟩

/-- The buffers of level 2. -/
abbrev bufs2 : LevelBufs where
  far := ⟨.of main_v75, .of main_v76, .of main_v77, .of main_cst_16, .of main_v78, .of main_v79, .of main_v80, .of
      main_v81, .of main_cst_17, .of main_v82, .of main_v83, .of main_v84, .of main_v85, .of main_v86, .of
      main_cst_18, .of main_v87, .of main_v88, .of main_v89, .of main_v90⟩
  near := main_call6
  take := main_call7
  step := ⟨.of main_v93, .of main_v94, .of main_cst_19, .of main_v95, .of main_cst_20, .of main_v96, .of main_v97,
      .of main_v98, .of main_cst_21, .of main_v99, .of main_cst_22, .of main_v100, .of main_cst_23, .of main_v101,
      .of main_v102, .of main_v103, .of main_v104⟩

/-- The buffers of level 3. -/
abbrev bufs3 : LevelBufs where
  far := ⟨.of main_v105, .of main_v106, .of main_v107, .of main_cst_24, .of main_v108, .of main_v109, .of main_v110,
      .of main_v111, .of main_cst_25, .of main_v112, .of main_v113, .of main_v114, .of main_v115, .of main_v116, .of
      main_cst_26, .of main_v117, .of main_v118, .of main_v119, .of main_v120⟩
  near := main_call8
  take := main_call9
  step := ⟨.of main_v123, .of main_v124, .of main_cst_27, .of main_v125, .of main_cst_28, .of main_v126, .of
      main_v127, .of main_v128, .of main_cst_29, .of main_v129, .of main_cst_30, .of main_v130, .of main_cst_31, .of
      main_v131, .of main_v132, .of main_v133, .of main_v134⟩

/-- The encoder, and the zeros that the sum of the codes taken starts from. -/
def encOps : List (HloOp τ sig (Elt F)) :=
  [ binary main_arg0 main_arg1 main_v0 ((fun l r => Host.dotGeneral dot_S8192x768_S768x2048_S8192x2048_1_0_0_1_n_n
      none l r) : (⟨S8192x768, .f32⟩ : BufTy).Contents (Elt F) → (⟨S768x2048, .f32⟩ : BufTy).Contents (Elt F) →
      (⟨S8192x2048, .f32⟩ : BufTy).Contents (Elt F)),
    unary main_arg2 main_v1 (broadcastInDim S1x2048 ![1] bcast_S2048_S1x2048_1 : (⟨S2048, .f32⟩ : BufTy).Contents
        (Elt F) → (⟨S1x2048, .f32⟩ : BufTy).Contents (Elt F)),
    unary main_v1 main_v2 (broadcastInDim S8192x2048 ![0, 1] bcast_S1x2048_S8192x2048_0_1 : (⟨S1x2048, .f32⟩ :
        BufTy).Contents (Elt F) → (⟨S8192x2048, .f32⟩ : BufTy).Contents (Elt F)),
    binary main_v0 main_v2 main_v3 (addf : (⟨S8192x2048, .f32⟩ : BufTy).Contents (Elt F) → (⟨S8192x2048, .f32⟩ :
        BufTy).Contents (Elt F) → (⟨S8192x2048, .f32⟩ : BufTy).Contents (Elt F)) ] ++
  reluOps (.of main_v3) main_call0 ++
  [ binary main_v4 main_arg3 main_v5 ((fun l r => Host.dotGeneral dot_S8192x2048_S2048x1024_S8192x1024_1_0_0_1_n_n
      none l r) : (⟨S8192x2048, .f32⟩ : BufTy).Contents (Elt F) → (⟨S2048x1024, .f32⟩ : BufTy).Contents (Elt F) →
      (⟨S8192x1024, .f32⟩ : BufTy).Contents (Elt F)),
    unary main_arg4 main_v6 (broadcastInDim S1x1024 ![1] bcast_S1024_S1x1024_1 : (⟨S1024, .f32⟩ : BufTy).Contents
        (Elt F) → (⟨S1x1024, .f32⟩ : BufTy).Contents (Elt F)),
    unary main_v6 main_v7 (broadcastInDim S8192x1024 ![0, 1] bcast_S1x1024_S8192x1024_0_1 : (⟨S1x1024, .f32⟩ :
        BufTy).Contents (Elt F) → (⟨S8192x1024, .f32⟩ : BufTy).Contents (Elt F)),
    binary main_v5 main_v7 main_v8 (addf : (⟨S8192x1024, .f32⟩ : BufTy).Contents (Elt F) → (⟨S8192x1024, .f32⟩ :
        BufTy).Contents (Elt F) → (⟨S8192x1024, .f32⟩ : BufTy).Contents (Elt F)) ] ++
  relu_0Ops (.of main_v8) main_call1 ++
  [ binary main_v9 main_arg5 main_v10 ((fun l r => Host.dotGeneral dot_S8192x1024_S1024x256_S8192x256_1_0_0_1_n_n
      none l r) : (⟨S8192x1024, .f32⟩ : BufTy).Contents (Elt F) → (⟨S1024x256, .f32⟩ : BufTy).Contents (Elt F) →
      (⟨S8192x256, .f32⟩ : BufTy).Contents (Elt F)),
    unary main_arg6 main_v11 (broadcastInDim S1x256 ![1] bcast_S256_S1x256_1 : (⟨S256, .f32⟩ : BufTy).Contents (Elt
        F) → (⟨S1x256, .f32⟩ : BufTy).Contents (Elt F)),
    unary main_v11 main_v12 (broadcastInDim S8192x256 ![0, 1] bcast_S1x256_S8192x256_0_1 : (⟨S1x256, .f32⟩ :
        BufTy).Contents (Elt F) → (⟨S8192x256, .f32⟩ : BufTy).Contents (Elt F)),
    binary main_v10 main_v12 main_v13 (addf : (⟨S8192x256, .f32⟩ : BufTy).Contents (Elt F) → (⟨S8192x256, .f32⟩ :
        BufTy).Contents (Elt F) → (⟨S8192x256, .f32⟩ : BufTy).Contents (Elt F)),
    nullary main_cst (constant S_ .f32 0x00000000#32),
    unary main_cst main_v14 (broadcastInDim S8192x256 ![] bcast_S_S8192x256 : (⟨S_, .f32⟩ : BufTy).Contents (Elt F) →
        (⟨S8192x256, .f32⟩ : BufTy).Contents (Elt F)) ]

/-- The four levels' losses, laid out as one array. -/
def fourLosses (a b c e : (⟨S1, .f32⟩ : BufTy).Contents (Elt F)) : (⟨S4, .f32⟩ : BufTy).Contents (Elt F) :=
  concatenate S4 0 [⟨S1, a⟩, ⟨S1, b⟩, ⟨S1, c⟩, ⟨S1, e⟩] concatenates_S1_S1_S1_S1_S4_d0

/-- The mean of the four losses, the straight-through sum, and the decoder. -/
def tailOps : List (HloOp τ sig (Elt F)) :=
  [ unary main_v42 main_v135 (broadcastInDim S1 ![] bcast_S_S1 : (⟨S_, .f32⟩ : BufTy).Contents (Elt F) → (⟨S1, .f32⟩
      : BufTy).Contents (Elt F)),
    unary main_v72 main_v136 (broadcastInDim S1 ![] bcast_S_S1 : (⟨S_, .f32⟩ : BufTy).Contents (Elt F) → (⟨S1, .f32⟩
        : BufTy).Contents (Elt F)),
    unary main_v102 main_v137 (broadcastInDim S1 ![] bcast_S_S1 : (⟨S_, .f32⟩ : BufTy).Contents (Elt F) → (⟨S1, .f32⟩
        : BufTy).Contents (Elt F)),
    unary main_v132 main_v138 (broadcastInDim S1 ![] bcast_S_S1 : (⟨S_, .f32⟩ : BufTy).Contents (Elt F) → (⟨S1, .f32⟩
        : BufTy).Contents (Elt F)),
    nary ![main_v135, main_v136, main_v137, main_v138] main_v139 (fun u => fourLosses (u 0) (u 1) (u 2) (u 3)),
    nullary main_cst_32 (constant S_ .f32 0x00000000#32),
    binary main_v139 main_cst_32 main_v140 ((fun x v => Host.reduceAdd x v reducesTo_S4_S_d0 h_S_) : (⟨S4, .f32⟩ :
        BufTy).Contents (Elt F) → (⟨S_, .f32⟩ : BufTy).Contents (Elt F) → (⟨S_, .f32⟩ : BufTy).Contents (Elt F)),
    nullary main_cst_33 (constant S_ .f32 0x40800000#32),
    binary main_v140 main_cst_33 main_v141 (Host.divf : (⟨S_, .f32⟩ : BufTy).Contents (Elt F) → (⟨S_, .f32⟩ :
        BufTy).Contents (Elt F) → (⟨S_, .f32⟩ : BufTy).Contents (Elt F)),
    binary main_v134 main_v13 main_v142 (subf : (⟨S8192x256, .f32⟩ : BufTy).Contents (Elt F) → (⟨S8192x256, .f32⟩ :
        BufTy).Contents (Elt F) → (⟨S8192x256, .f32⟩ : BufTy).Contents (Elt F)),
    binary main_v13 main_v142 main_v143 (addf : (⟨S8192x256, .f32⟩ : BufTy).Contents (Elt F) → (⟨S8192x256, .f32⟩ :
        BufTy).Contents (Elt F) → (⟨S8192x256, .f32⟩ : BufTy).Contents (Elt F)),
    binary main_v143 main_arg7 main_v144 ((fun l r => Host.dotGeneral dot_S8192x256_S256x1024_S8192x1024_1_0_0_1_n_n
        none l r) : (⟨S8192x256, .f32⟩ : BufTy).Contents (Elt F) → (⟨S256x1024, .f32⟩ : BufTy).Contents (Elt F) →
        (⟨S8192x1024, .f32⟩ : BufTy).Contents (Elt F)),
    unary main_arg8 main_v145 (broadcastInDim S1x1024 ![1] bcast_S1024_S1x1024_1 : (⟨S1024, .f32⟩ : BufTy).Contents
        (Elt F) → (⟨S1x1024, .f32⟩ : BufTy).Contents (Elt F)),
    unary main_v145 main_v146 (broadcastInDim S8192x1024 ![0, 1] bcast_S1x1024_S8192x1024_0_1 : (⟨S1x1024, .f32⟩ :
        BufTy).Contents (Elt F) → (⟨S8192x1024, .f32⟩ : BufTy).Contents (Elt F)),
    binary main_v144 main_v146 main_v147 (addf : (⟨S8192x1024, .f32⟩ : BufTy).Contents (Elt F) → (⟨S8192x1024, .f32⟩
        : BufTy).Contents (Elt F) → (⟨S8192x1024, .f32⟩ : BufTy).Contents (Elt F)) ] ++
  relu_0Ops (.of main_v147) main_call10 ++
  [ binary main_v148 main_arg9 main_v149 ((fun l r => Host.dotGeneral
      dot_S8192x1024_S1024x2048_S8192x2048_1_0_0_1_n_n none l r) : (⟨S8192x1024, .f32⟩ : BufTy).Contents (Elt F) →
      (⟨S1024x2048, .f32⟩ : BufTy).Contents (Elt F) → (⟨S8192x2048, .f32⟩ : BufTy).Contents (Elt F)),
    unary main_arg10 main_v150 (broadcastInDim S1x2048 ![1] bcast_S2048_S1x2048_1 : (⟨S2048, .f32⟩ : BufTy).Contents
        (Elt F) → (⟨S1x2048, .f32⟩ : BufTy).Contents (Elt F)),
    unary main_v150 main_v151 (broadcastInDim S8192x2048 ![0, 1] bcast_S1x2048_S8192x2048_0_1 : (⟨S1x2048, .f32⟩ :
        BufTy).Contents (Elt F) → (⟨S8192x2048, .f32⟩ : BufTy).Contents (Elt F)),
    binary main_v149 main_v151 main_v152 (addf : (⟨S8192x2048, .f32⟩ : BufTy).Contents (Elt F) → (⟨S8192x2048, .f32⟩
        : BufTy).Contents (Elt F) → (⟨S8192x2048, .f32⟩ : BufTy).Contents (Elt F)) ] ++
  reluOps (.of main_v152) main_call11 ++
  [ binary main_v153 main_arg11 main_v154 ((fun l r => Host.dotGeneral dot_S8192x2048_S2048x768_S8192x768_1_0_0_1_n_n
      none l r) : (⟨S8192x2048, .f32⟩ : BufTy).Contents (Elt F) → (⟨S2048x768, .f32⟩ : BufTy).Contents (Elt F) →
      (⟨S8192x768, .f32⟩ : BufTy).Contents (Elt F)),
    unary main_arg12 main_v155 (broadcastInDim S1x768 ![1] bcast_S768_S1x768_1 : (⟨S768, .f32⟩ : BufTy).Contents (Elt
        F) → (⟨S1x768, .f32⟩ : BufTy).Contents (Elt F)),
    unary main_v155 main_v156 (broadcastInDim S8192x768 ![0, 1] bcast_S1x768_S8192x768_0_1 : (⟨S1x768, .f32⟩ :
        BufTy).Contents (Elt F) → (⟨S8192x768, .f32⟩ : BufTy).Contents (Elt F)),
    binary main_v154 main_v156 main_v157 (addf : (⟨S8192x768, .f32⟩ : BufTy).Contents (Elt F) → (⟨S8192x768, .f32⟩ :
        BufTy).Contents (Elt F) → (⟨S8192x768, .f32⟩ : BufTy).Contents (Elt F)) ]

/-- Level 0's slab of the code books. -/
abbrev cut0 (x : (⟨S4x1024x256, .f32⟩ : BufTy).Contents (Elt F)) : (⟨S1x1024x256, .f32⟩ : BufTy).Contents (Elt F) :=
  extractStridedSlice S1x1024x256 ![0, 0, 0] x slices_S4x1024x256_S1x1024x256_0_0_0

/-- Level 0's operations. -/
abbrev level0 : List (HloOp τ sig (Elt F)) := levelOps cut0 (.of main_v13) (.of main_v14) bufs0

/-- Level 1's slab of the code books. -/
abbrev cut1 (x : (⟨S4x1024x256, .f32⟩ : BufTy).Contents (Elt F)) : (⟨S1x1024x256, .f32⟩ : BufTy).Contents (Elt F) :=
  extractStridedSlice S1x1024x256 ![1, 0, 0] x slices_S4x1024x256_S1x1024x256_1_0_0

/-- Level 1's operations. -/
abbrev level1 : List (HloOp τ sig (Elt F)) := levelOps cut1 (.of main_v43) (.of main_v44) bufs1

/-- Level 2's slab of the code books. -/
abbrev cut2 (x : (⟨S4x1024x256, .f32⟩ : BufTy).Contents (Elt F)) : (⟨S1x1024x256, .f32⟩ : BufTy).Contents (Elt F) :=
  extractStridedSlice S1x1024x256 ![2, 0, 0] x slices_S4x1024x256_S1x1024x256_2_0_0

/-- Level 2's operations. -/
abbrev level2 : List (HloOp τ sig (Elt F)) := levelOps cut2 (.of main_v73) (.of main_v74) bufs2

/-- Level 3's slab of the code books. -/
abbrev cut3 (x : (⟨S4x1024x256, .f32⟩ : BufTy).Contents (Elt F)) : (⟨S1x1024x256, .f32⟩ : BufTy).Contents (Elt F) :=
  extractStridedSlice S1x1024x256 ![3, 0, 0] x slices_S4x1024x256_S1x1024x256_3_0_0

/-- Level 3's operations. -/
abbrev level3 : List (HloOp τ sig (Elt F)) := levelOps cut3 (.of main_v103) (.of main_v104) bufs3

/-- All operations of the reference. -/
def ops : List (HloOp τ sig (Elt F)) := encOps ++ (level0 ++ (level1 ++ (level2 ++ (level3 ++ tailOps))))

end Cert.ReferenceIdeal.Ops
-- ==== Proof.RefStage.lean ====
/-
  What each stage of the reference leaves in its results, as a function of what it reads.
-/
module

public import proofs.«01_k».proof.Proof.RefOps

@[expose] public section

noncomputable section

namespace Cert.ReferenceIdeal.Ops

open Cert.ReferenceIdeal Cert.ReferenceIdeal.Gen Idealize.ShloMosaic Idealize.ShloMosaic.TcCoe Idealize.SL.Sem
open Idealize.ShloMosaic.StableHlo

variable {F : FTy → Type} [FloatOps F]

/-- Arrays of 32-bit floats. -/
abbrev Arr (F : FTy → Type) (s : Shape) : Type := (⟨s, .f32⟩ : BufTy).Contents (Elt F)

/-! ## The stages as functions -/

/-- The code book cut out of the stack of code books. -/
def codeOf (slab : Arr F S1x1024x256) : Arr F S1024x256 :=
  shapeCast S1024x256 slab shapeCasts_S1x1024x256_S1024x256

/-- The distances of all rows to all codes. -/
def distOf (r : Arr F S8192x256) (code : Arr F S1024x256) : Arr F S8192x1024 :=
  addf
    (subf
      (broadcastInDim S8192x1024 ![0, 1] bcast_S8192x1_S8192x1024_0_1
        (broadcastInDim S8192x1 ![0] bcast_S8192_S8192x1_0
          (Host.reduceAdd (mulf r r) (constant S_ .f32 0x00000000#32) reducesTo_S8192x256_S8192_d1 h_S_)))
      (mulf (broadcastInDim S8192x1024 ![] bcast_S_S8192x1024 (constant S_ .f32 0x40000000#32))
        (Host.dotGeneral dot_S8192x256_S256x1024_S8192x1024_1_0_0_1_n_n none r
          (transpose S256x1024 [1, 0] code transposes_S1024x256_S256x1024_1_0))))
    (broadcastInDim S8192x1024 ![0, 1] bcast_S1x1024_S8192x1024_0_1
      (broadcastInDim S1x1024 ![1] bcast_S1024_S1x1024_1
        (Host.reduceAdd (mulf code code) (constant S_ .f32 0x00000000#32) reducesTo_S1024x256_S1024_d1 h_S_)))

/-- The index of the least entry of each row. -/
def argminOf (d : Arr F S8192x1024) : (⟨S8192, .i32⟩ : BufTy).Contents (Elt F) :=
  fun j => (Host.argReduce reducer_argmin_f32_i32 d (iotaInDim S8192x1024 32 1) (constant S_ .f32 0x7F800000#32)
    (constantI S_ 32 0#32) reducesTo_S8192x1024_S8192_d1 h_S_ j).2

/-- An index below zero counts from the end. -/
def wrapped (i : (⟨S8192, .i32⟩ : BufTy).Contents (Elt F)) : (⟨S8192x1, .i32⟩ : BufTy).Contents (Elt F) :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- The codes at the given (wrapped) indices; outside the code book, the not-a-number pattern. -/
def gathered (code : Arr F S1024x256) (w : (⟨S8192x1, .i32⟩ : BufTy).Contents (Elt F)) : Arr F S8192x256 :=
  select
    (broadcastInDim S8192x256 ![0] bcast_S8192_S8192x256_0
      (Host.reduce IntOp.andi
        (andi (cmpi .sge w (broadcastInDim S8192x1 ![] bcast_S_S8192x1 (constantI S_ 32 0#32)))
          (cmpi .sle w (broadcastInDim S8192x1 ![0, 1] bcast_S1x1_S8192x1_0_1
            (broadcastInDim S1x1 ![1] bcast_S1_S1x1_1 (constantI S1 32 1023#32)))))
        (constantI S_ 1 1#1) reducesTo_S8192x1_S8192_d1 h_S_))
    (Host.gather gather_S1024x256_S8192x1_S8192x256_1_0_n_n_0_1_1256 code w)
    (broadcastInDim S8192x256 ![] bcast_S_S8192x256 (constant S_ .f32 0x7FC00000#32))

/-- The mean of the squares of all entries. -/
def meanSq (e : Arr F S8192x256) : Arr F S_ :=
  Host.divf (Host.reduceAdd (mulf e e) (constant S_ .f32 0x00000000#32) reducesTo_S8192x256_S_d0_1 h_S_)
    (constant S_ .f32 0x4A000000#32)

/-- One level's loss. -/
def lossOf (r q : Arr F S8192x256) : Arr F S_ :=
  addf (meanSq (subf q r)) (mulf (constant S_ .f32 0x3E800000#32) (meanSq (subf r q)))

/-- The codes nearest to the rows of `r`. -/
def chosenOf (r : Arr F S8192x256) (code : Arr F S1024x256) : Arr F S8192x256 :=
  gathered code (wrapped (argminOf (distOf r code)))

/-- The encoder's first layer. -/
def enc1 (x : Arr F S8192x768) (w : Arr F S768x2048) (b : Arr F S2048) : Arr F S8192x2048 :=
  addf (Host.dotGeneral dot_S8192x768_S768x2048_S8192x2048_1_0_0_1_n_n none x w)
    (broadcastInDim S8192x2048 ![0, 1] bcast_S1x2048_S8192x2048_0_1 (broadcastInDim S1x2048 ![1] bcast_S2048_S1x2048_1 b))

/-- The encoder's second layer. -/
def enc2 (x : Arr F S8192x2048) (w : Arr F S2048x1024) (b : Arr F S1024) : Arr F S8192x1024 :=
  addf (Host.dotGeneral dot_S8192x2048_S2048x1024_S8192x1024_1_0_0_1_n_n none x w)
    (broadcastInDim S8192x1024 ![0, 1] bcast_S1x1024_S8192x1024_0_1 (broadcastInDim S1x1024 ![1] bcast_S1024_S1x1024_1 b))

/-- The encoder's third layer. -/
def enc3 (x : Arr F S8192x1024) (w : Arr F S1024x256) (b : Arr F S256) : Arr F S8192x256 :=
  addf (Host.dotGeneral dot_S8192x1024_S1024x256_S8192x256_1_0_0_1_n_n none x w)
    (broadcastInDim S8192x256 ![0, 1] bcast_S1x256_S8192x256_0_1 (broadcastInDim S1x256 ![1] bcast_S256_S1x256_1 b))

/-- The decoder's first layer. -/
def dec1 (x : Arr F S8192x256) (w : Arr F S256x1024) (b : Arr F S1024) : Arr F S8192x1024 :=
  addf (Host.dotGeneral dot_S8192x256_S256x1024_S8192x1024_1_0_0_1_n_n none x w)
    (broadcastInDim S8192x1024 ![0, 1] bcast_S1x1024_S8192x1024_0_1 (broadcastInDim S1x1024 ![1] bcast_S1024_S1x1024_1 b))

/-- The decoder's second layer. -/
def dec2 (x : Arr F S8192x1024) (w : Arr F S1024x2048) (b : Arr F S2048) : Arr F S8192x2048 :=
  addf (Host.dotGeneral dot_S8192x1024_S1024x2048_S8192x2048_1_0_0_1_n_n none x w)
    (broadcastInDim S8192x2048 ![0, 1] bcast_S1x2048_S8192x2048_0_1 (broadcastInDim S1x2048 ![1] bcast_S2048_S1x2048_1 b))

/-- The decoder's third layer. -/
def dec3 (x : Arr F S8192x2048) (w : Arr F S2048x768) (b : Arr F S768) : Arr F S8192x768 :=
  addf (Host.dotGeneral dot_S8192x2048_S2048x768_S8192x768_1_0_0_1_n_n none x w)
    (broadcastInDim S8192x768 ![0, 1] bcast_S1x768_S8192x768_0_1 (broadcastInDim S1x768 ![1] bcast_S768_S1x768_1 b))

/-- `max(x, 0)` on 2048 columns. -/
def relu2048 (x : Arr F S8192x2048) : Arr F S8192x2048 :=
  maximumf x (broadcastInDim S8192x2048 ![] bcast_S_S8192x2048 (constant S_ .f32 0x00000000#32))

/-- `max(x, 0)` on 1024 columns. -/
def relu1024 (x : Arr F S8192x1024) : Arr F S8192x1024 :=
  maximumf x (broadcastInDim S8192x1024 ![] bcast_S_S8192x1024 (constant S_ .f32 0x00000000#32))

/-- The encoder. -/
def encOf (x : Arr F S8192x768) (w1 : Arr F S768x2048) (b1 : Arr F S2048) (w2 : Arr F S2048x1024) (b2 : Arr F S1024)
    (w3 : Arr F S1024x256) (b3 : Arr F S256) : Arr F S8192x256 :=
  enc3 (relu1024 (enc2 (relu2048 (enc1 x w1 b1)) w2 b2)) w3 b3

/-- The decoder. -/
def decOf (x : Arr F S8192x256) (w1 : Arr F S256x1024) (b1 : Arr F S1024) (w2 : Arr F S1024x2048) (b2 : Arr F S2048)
    (w3 : Arr F S2048x768) (b3 : Arr F S768) : Arr F S8192x768 :=
  dec3 (relu2048 (dec2 (relu1024 (dec1 x w1 b1)) w2 b2)) w3 b3

/-- The zeros that the sum of the codes taken starts from. -/
def zeros : Arr F S8192x256 := broadcastInDim S8192x256 ![] bcast_S_S8192x256 (constant S_ .f32 0x00000000#32)

/-- The mean of the four levels' losses. -/
def meanLoss (l0 l1 l2 l3 : Arr F S_) : Arr F S_ :=
  Host.divf
    (Host.reduceAdd
      (fourLosses (broadcastInDim S1 ![] bcast_S_S1 l0) (broadcastInDim S1 ![] bcast_S_S1 l1)
        (broadcastInDim S1 ![] bcast_S_S1 l2) (broadcastInDim S1 ![] bcast_S_S1 l3))
      (constant S_ .f32 0x00000000#32) reducesTo_S4_S_d0 h_S_)
    (constant S_ .f32 0x40800000#32)

/-! ## What the stages leave -/

/-- What a level is to leave, from the residual `r` and the sum `a` of the codes taken before: the loss, the residual
    less the codes taken, and the sum with them. -/
def LevelReads (cut : Arr F S4x1024x256 → Arr F S1x1024x256) (r a : TRef sig ⟨S8192x256, .f32⟩) (φ : LevelBufs) : Prop :=
  ∀ V : Valuation τ sig (Elt F),
    let R := r.ofBuf (V r.ref)
    let Q := chosenOf R (codeOf (cut (V (main_arg13 : Ref sig .tc))))
    φ.step.loss.ofBuf (after (levelOps cut r a φ) V φ.step.loss.ref) = lossOf R Q
    ∧ φ.step.rest.ofBuf (after (levelOps cut r a φ) V φ.step.rest.ref) = subf R Q
    ∧ φ.step.acc.ofBuf (after (levelOps cut r a φ) V φ.step.acc.ref) = addf (a.ofBuf (V a.ref)) Q

set_option maxHeartbeats 10000000 in
/-- Every level leaves what it is to leave. -/
theorem levels_read :
    LevelReads (F := F) cut0 (.of main_v13) (.of main_v14) bufs0
    ∧ LevelReads (F := F) cut1 (.of main_v43) (.of main_v44) bufs1
    ∧ LevelReads (F := F) cut2 (.of main_v73) (.of main_v74) bufs2
    ∧ LevelReads (F := F) cut3 (.of main_v103) (.of main_v104) bufs3 := by
  refine ⟨?_, ?_, ?_, ?_⟩ <;>
  · intro V
    dsimp only
    simp only [levelOps, distOps, argminOps, takeOps, stepOps, List.cons_append, List.nil_append, TRef.binary,
      TRef.nullary, TRef.unary, TRef.ternary, TRef.quaternary, TRef.reshape, TRef.toBuf, TRef.ofBuf, cast_eq]
    refine ⟨?_, ?_, ?_⟩ <;> after_results_simp <;> rfl

set_option maxHeartbeats 4000000 in
/-- The encoder leaves its result, and the zeros. -/
theorem enc_read (V : Valuation τ sig (Elt F)) :
    after encOps V (main_v13 : Ref sig .tc)
      = encOf (V (main_arg0 : Ref sig .tc)) (V (main_arg1 : Ref sig .tc)) (V (main_arg2 : Ref sig .tc))
          (V (main_arg3 : Ref sig .tc)) (V (main_arg4 : Ref sig .tc)) (V (main_arg5 : Ref sig .tc))
          (V (main_arg6 : Ref sig .tc))
    ∧ after encOps V (main_v14 : Ref sig .tc) = zeros := by
  simp only [encOps, reluOps, relu_0Ops, List.cons_append, List.nil_append, TRef.binary, TRef.nullary, TRef.unary,
    TRef.toBuf, TRef.ofBuf, cast_eq]
  refine ⟨?_, ?_⟩ <;> after_results_simp <;> rfl

set_option maxHeartbeats 4000000 in
/-- The tail leaves the decoded rows and the mean loss. -/
theorem tail_read (V : Valuation τ sig (Elt F)) :
    after tailOps V (main_v157 : Ref sig .tc)
      = decOf (addf (V (main_v13 : Ref sig .tc)) (subf (V (main_v134 : Ref sig .tc)) (V (main_v13 : Ref sig .tc))))
          (V (main_arg7 : Ref sig .tc)) (V (main_arg8 : Ref sig .tc)) (V (main_arg9 : Ref sig .tc))
          (V (main_arg10 : Ref sig .tc)) (V (main_arg11 : Ref sig .tc)) (V (main_arg12 : Ref sig .tc))
    ∧ after tailOps V (main_v141 : Ref sig .tc)
      = meanLoss (V (main_v42 : Ref sig .tc)) (V (main_v72 : Ref sig .tc)) (V (main_v102 : Ref sig .tc))
          (V (main_v132 : Ref sig .tc)) := by
  simp only [tailOps, reluOps, relu_0Ops, List.cons_append, List.nil_append, TRef.binary, TRef.nullary, TRef.unary,
    TRef.toBuf, TRef.ofBuf, cast_eq]
  refine ⟨?_, ?_⟩ <;> after_results_simp <;> rfl

end Cert.ReferenceIdeal.Ops
-- ==== Proof.RefRows.lean ====
/-
  The reference, row by row, over the extended reals.
-/
module

public import proofs.«01_k».proof.Proof.RefStage
public import proofs.«01_k».proof.Proof.Model
public import Idealize.ShloMosaic.Lib.Pointwise
public import Idealize.ShloMosaic.Lib.Routing.Ops
public import Idealize.ShloMosaic.Lib.ReduceAll

@[expose] public section

set_option maxRecDepth 16384

noncomputable section

namespace Cert.ReferenceIdeal.Ops

open Cert.ReferenceIdeal Cert.ReferenceIdeal.Gen Cert.Model Idealize.ShloMosaic

/-! ## The index of the least entry -/

/-- The order of (entry, index) pairs that the reduction follows: by the entry, then by the index. -/
def PairLe (a b : EReal × BitVec 32) : Prop := a.1 < b.1 ∨ a.1 = b.1 ∧ a.2.toInt ≤ b.2.toInt

/-- Every pair comes before itself. -/
theorem PairLe.refl (a : EReal × BitVec 32) : PairLe a a := .inr ⟨rfl, le_rfl⟩

/-- The order of the pairs is transitive. -/
theorem PairLe.trans {a b c : EReal × BitVec 32} (h : PairLe a b) (h' : PairLe b c) : PairLe a c := by
  rcases h with h | ⟨e, h⟩ <;> rcases h' with h' | ⟨e', h'⟩
  · exact .inl (h.trans h')
  · exact .inl (e' ▸ h)
  · exact .inl (e ▸ h')
  · exact .inr ⟨e.trans e', h.trans h'⟩

/-- One step of the reduction keeps the first pair when it comes strictly before, else the second. -/
theorem reducer_eq (a b : EReal × BitVec 32) :
    reducer_argmin_f32_i32 (F := Ideal) a b = if a.1 < b.1 ∨ a.1 = b.1 ∧ a.2.toInt < b.2.toInt then a else b := by
  obtain ⟨x, i⟩ := a
  obtain ⟨y, j⟩ := b
  have hlt : (FloatOps.cmpf (F := Ideal) (φ := .f32) .olt x y : BitVec 1) = BitVec.ofBool (decide (x < y)) := by
    simp [Ideal.cmpf_def, Ideal.cmp]
  have hne : (FloatOps.cmpf (F := Ideal) (φ := .f32) .une x x : BitVec 1) = 0#1 := by simp [Ideal.cmpf_def, Ideal.cmp]
  have heq : (FloatOps.cmpf (F := Ideal) (φ := .f32) .oeq x y : BitVec 1) = BitVec.ofBool (decide (x = y)) := by
    simp [Ideal.cmpf_def, Ideal.cmp]
  have hi : IntOp.cmpi .slt i j = BitVec.ofBool (decide (i.toInt < j.toInt)) := by simp [IntOp.cmpi, BitVec.slt]
  simp only [reducer_argmin_f32_i32, hlt, hne, heq, hi, Scalar.select]
  rcases lt_trichotomy x y with h | h | h
  · simp [h, h.ne, IntOp.ori, IntOp.andi]
  · subst h
    by_cases hij : i.toInt < j.toInt <;> simp [hij, IntOp.ori, IntOp.andi]
  · simp [h.not_gt, h.ne', IntOp.ori, IntOp.andi]

/-- What the reduction's step keeps comes before both of its operands. -/
theorem reducer_le (a b : EReal × BitVec 32) :
    (reducer_argmin_f32_i32 (F := Ideal) a b = a ∨ reducer_argmin_f32_i32 (F := Ideal) a b = b)
      ∧ PairLe (reducer_argmin_f32_i32 (F := Ideal) a b) a ∧ PairLe (reducer_argmin_f32_i32 (F := Ideal) a b) b := by
  rw [reducer_eq]
  split
  · next h => exact ⟨.inl rfl, .refl _, h.imp id fun h => ⟨h.1, h.2.le⟩⟩
  · next h =>
    refine ⟨.inr rfl, ?_, .refl _⟩
    rw [not_or, not_and] at h
    rcases lt_or_eq_of_le (not_lt.mp h.1) with h' | h'
    · exact .inl h'
    · exact .inr ⟨h', not_lt.mp (h.2 h'.symm)⟩

/-- The reduction of a list of pairs is one of them, or the start, and comes first among them. -/
theorem foldl_reducer (l : List (EReal × BitVec 32)) : ∀ a : EReal × BitVec 32,
    (l.foldl (reducer_argmin_f32_i32 (F := Ideal)) a = a ∨ l.foldl (reducer_argmin_f32_i32 (F := Ideal)) a ∈ l)
      ∧ PairLe (l.foldl (reducer_argmin_f32_i32 (F := Ideal)) a) a
      ∧ ∀ q ∈ l, PairLe (l.foldl (reducer_argmin_f32_i32 (F := Ideal)) a) q := by
  induction l with
  | nil => exact fun a => ⟨.inl rfl, .refl a, fun _ h => absurd h List.not_mem_nil⟩
  | cons b l ih =>
    intro a
    obtain ⟨h1, h2, h3⟩ := ih (reducer_argmin_f32_i32 (F := Ideal) a b)
    obtain ⟨g1, g2, g3⟩ := reducer_le a b
    rw [List.foldl_cons]
    refine ⟨?_, h2.trans g2, fun q hq => ?_⟩
    · rcases h1 with h1 | h1
      · rw [h1]
        exact g1.imp id fun g => by rw [g]; exact List.mem_cons_self ..
      · exact .inr (List.mem_cons_of_mem _ h1)
    · rcases List.mem_cons.mp hq with rfl | hq
      · exact h2.trans g3
      · exact h3 q hq

/-- The pairs that the reduction of row `i` runs over: the row's entries with their column numbers. -/
theorem mem_fiber (d : FVec Ideal S8192x1024 .f32) (i : Fin 8192) (q : EReal × BitVec 32) :
    q ∈ Host.argReduceFiber d (iotaInDim S8192x1024 32 1) reducesTo_S8192x1024_S8192_d1 (ix1 i)
      ↔ ∃ k : Fin 1024, q = (d (ix2 i k), BitVec.ofNat 32 k.val) := by
  have hd : ∀ x : S8192x1024.Idx, reducesTo_S8192x1024_S8192_d1.drop x = ix1 i ↔ (x 0).val = i.val := by
    intro x
    have e : (reducesTo_S8192x1024_S8192_d1.drop x 0).val = (x 0).val :=
      Shape.ReducesTo.drop_apply_val reducesTo_S8192x1024_S8192_d1 x 0
    constructor
    · intro h; rw [← e, h]; rfl
    · intro h; funext a; match a with | ⟨0, _⟩ => exact Fin.ext (e.trans h)
  simp only [Host.argReduceFiber, List.mem_map, List.mem_filter, List.mem_finRange, true_and, decide_eq_true_eq]
  constructor
  · rintro ⟨n, hn, rfl⟩
    generalize S8192x1024.rowMajor.symm n = x at hn ⊢
    refine ⟨x 1, Prod.ext (congrArg d ?_) rfl⟩
    funext a
    match a with
    | ⟨0, _⟩ => exact Fin.ext ((hd _).mp hn)
    | ⟨1, _⟩ => rfl
  · rintro ⟨k, rfl⟩
    exact ⟨S8192x1024.rowMajor (ix2 i k), by rw [Equiv.symm_apply_apply]; exact (hd _).mpr rfl,
      by rw [Equiv.symm_apply_apply]; rfl⟩

/-- The pairs found by the reduction, one for each row. -/
def pairOf (d : FVec Ideal S8192x1024 .f32) : S8192.Idx → Ideal .f32 × BitVec 32 :=
  Host.argReduce reducer_argmin_f32_i32 d (iotaInDim S8192x1024 32 1) (constant S_ .f32 0x7F800000#32)
    (constantI S_ 32 0#32) reducesTo_S8192x1024_S8192_d1 h_S_

/-- The index is the second half of the reduced pair. -/
theorem argminOf_eq (d : FVec Ideal S8192x1024 .f32) : argminOf (F := Ideal) d = fun j => (pairOf d j).2 := by
  delta argminOf pairOf; with_reducible rfl

/-- A row's pair is the fold of its pairs from the start `(⊤, 0)`. -/
theorem pairOf_row (d : FVec Ideal S8192x1024 .f32) (i : Fin 8192) :
    pairOf d (ix1 i) = List.foldl (reducer_argmin_f32_i32 (F := Ideal)) ((⊤ : EReal), 0#32)
      (Host.argReduceFiber d (iotaInDim S8192x1024 32 1) reducesTo_S8192x1024_S8192_d1 (ix1 i)) := by
  delta pairOf
  rw [Ideal.argReduce_eq_reduce2, Host.reduce2_eq_foldl_fiber]
  refine congrArg (fun a => List.foldl (reducer_argmin_f32_i32 (F := Ideal)) a
    (Host.argReduceFiber d (iotaInDim S8192x1024 32 1) reducesTo_S8192x1024_S8192_d1 (ix1 i))) ?_
  exact Prod.ext ofBits_top rfl

/-- The index found is the nearest code's. -/
theorem argmin_row (d : FVec Ideal S8192x1024 .f32) (i : Fin 8192) :
    argminOf (F := Ideal) d (ix1 i) = BitVec.ofNat 32 (nearest fun k => d (ix2 i k)).val := by
  refine (congrFun (argminOf_eq d) (ix1 i)).trans ?_
  beta_reduce
  rw [pairOf_row]
  obtain ⟨h1, h2, h3⟩ := foldl_reducer
    (Host.argReduceFiber d (iotaInDim S8192x1024 32 1) reducesTo_S8192x1024_S8192_d1 (ix1 i)) ((⊤ : EReal), 0#32)
  generalize List.foldl _ _ _ = p at h1 h2 h3 ⊢
  have h3' : ∀ k : Fin 1024, PairLe p (d (ix2 i k), BitVec.ofNat 32 k.val) := fun k => h3 _ ((mem_fiber d i _).mpr ⟨k, rfl⟩)
  have h1' : ∃ k : Fin 1024, p = (d (ix2 i k), BitVec.ofNat 32 k.val) := by
    rcases h1 with h1 | h1
    · refine ⟨0, ?_⟩
      rcases h3' 0 with h | ⟨h, _⟩
      · rw [h1] at h; exact absurd h not_top_lt
      · exact Prod.ext h (by rw [h1]; rfl)
    · exact (mem_fiber d i _).mp h1
  obtain ⟨k, rfl⟩ := h1'
  refine congrArg (fun k : Fin 1024 => BitVec.ofNat 32 k.val) (eq_nearest ⟨fun j => ?_, fun j hj => ?_⟩)
  · rcases h3' j with h | ⟨h, _⟩
    · exact h.le
    · exact h.le
  · rcases h3' j with h | ⟨_, h⟩
    · exact h
    · have e : ∀ m : Fin 1024, (BitVec.ofNat 32 m.val).toInt = m.val := fun m => by
        rw [BitVec.toInt_eq_toNat_of_lt] <;> simp only [BitVec.toNat_ofNat] <;> omega
      simp only [e] at h
      have : j.val < k.val := hj
      omega

/-! ## The codes taken -/

/-- No index is negative. -/
theorem slt_zero (k : Fin 1024) : IntOp.cmpi .slt (BitVec.ofNat 32 k.val) 0#32 = 0#1 := by
  revert k; decide

/-- Every index is at least zero. -/
theorem sge_zero (k : Fin 1024) : IntOp.cmpi .sge (BitVec.ofNat 32 k.val) 0#32 = 1#1 := by
  revert k; decide

/-- Every index is at most 1023. -/
theorem sle_last (k : Fin 1024) : IntOp.cmpi .sle (BitVec.ofNat 32 k.val) 1023#32 = 1#1 := by
  revert k; decide

/-- Wrapping leaves an index in range as it is. -/
theorem wrapped_row (w : (⟨S8192, .i32⟩ : BufTy).Contents (Elt Ideal)) (i : Fin 8192) (k : Fin 1024)
    (h : w (ix1 i) = BitVec.ofNat 32 k.val) : wrapped (F := Ideal) w (ix2 i 0) = BitVec.ofNat 32 k.val := by
  pointwise [wrapped]
  rw [h, slt_zero]
  rfl

/-- The gather reads the row of the code book at the index. -/
theorem gathered_row (code : FVec Ideal S1024x256 .f32) (w : (⟨S8192x1, .i32⟩ : BufTy).Contents (Elt Ideal))
    (g : Fin 8192 → Fin 1024) (h : ∀ i, w (ix2 i 0) = BitVec.ofNat 32 (g i).val) (i : Fin 8192) (j : Fin 256) :
    gathered (F := Ideal) code w (ix2 i j) = code (ix2 (g i) j) := by
  have hall : ∀ x : S8192x1.Idx, andi (cmpi .sge w (broadcastInDim S8192x1 ![] bcast_S_S8192x1 (constantI S_ 32 0#32)))
      (cmpi .sle w (broadcastInDim S8192x1 ![0, 1] bcast_S1x1_S8192x1_0_1
        (broadcastInDim S1x1 ![1] bcast_S1_S1x1_1 (constantI S1 32 1023#32)))) x = 1#1 := by
    intro x
    obtain ⟨a, rfl⟩ : ∃ a : Fin 8192, x = ix2 a 0 := by
      refine ⟨x 0, funext fun a => ?_⟩
      match a with
      | ⟨0, _⟩ => rfl
      | ⟨1, _⟩ => exact Fin.ext (by have := (x 1).isLt; change (x 1).val < 1 at this; change (x 1).val = 0; omega)
    show IntOp.andi (IntOp.cmpi .sge (w (ix2 a 0)) 0#32) (IntOp.cmpi .sle (w (ix2 a 0)) 1023#32) = 1#1
    rw [h, sge_zero, sle_last]
    rfl
  have hin : (Host.reduce IntOp.andi
        (andi (cmpi .sge w (broadcastInDim S8192x1 ![] bcast_S_S8192x1 (constantI S_ 32 0#32)))
          (cmpi .sle w (broadcastInDim S8192x1 ![0, 1] bcast_S1x1_S8192x1_0_1
            (broadcastInDim S1x1 ![1] bcast_S1_S1x1_1 (constantI S1 32 1023#32)))))
        (constantI S_ 1 1#1) reducesTo_S8192x1_S8192_d1 h_S_) = fun _ => 1#1 :=
    funext fun y => Host.reduce_andi_one _ _ _ _ y rfl hall
  rw [gathered, hin]
  show Host.gather gather_S1024x256_S8192x1_S8192x256_1_0_n_n_0_1_1256 code w (ix2 i j) = _
  rw [ix2_eq_valueIdx, ix2_eq_valueIdx]
  exact Routing.gather_row _ rfl rfl rfl rfl rfl code w i j (g i) ((congrArg w (ix2_eq_valueIdx i 0).symm).trans (h i)) (by decide)

/-! ## One level -/

section Level

variable (r : FVec Ideal S8192x256 .f32) (c : FVec Ideal S1024x256 .f32) (i : Fin 8192)

/-- The distances of row `i`. -/
theorem distOf_row (k : Fin 1024) : distOf (F := Ideal) r c (ix2 i k) = Model.dist (rowOf r i) (matOf c) k := by
  pointwise [distOf, Model.dist]

/-- The code word taken for row `i` is the nearest. -/
theorem chosenOf_row (j : Fin 256) : chosenOf (F := Ideal) r c (ix2 i j) = pick (rowOf r i) (matOf c) j := by
  rw [chosenOf, gathered_row c _ (fun i => nearest (Model.dist (rowOf r i) (matOf c)))]
  · rfl
  · intro i
    refine wrapped_row _ i _ ((argmin_row _ i).trans ?_)
    simp only [distOf_row]

end Level

end Cert.ReferenceIdeal.Ops
-- ==== Proof.RefRun.lean ====
/-
  The reference's run: it ends with its two results at the stages' composition, and its arguments unchanged.
-/
module

public import proofs.«01_k».proof.Defs
public import proofs.«01_k».proof.Proof.RefStage
public import Idealize.ShloMosaic.Lib.Pipeline.Frame

@[expose] public section

noncomputable section

namespace Cert.ReferenceIdeal.Ops

open Cert.ReferenceIdeal Cert.ReferenceIdeal.Gen Idealize.ShloMosaic Idealize.ShloMosaic.TcCoe Idealize.SL.Sem
open Idealize.ShloMosaic.StableHlo

variable {F : FTy → Type} [FloatOps F]

/-! ## The program is the list -/

set_option maxRecDepth 8192 in
set_option maxHeartbeats 4000000 in
/-- The program runs the operations of the list in order. -/
theorem main_eq (c : Dev nD) : main (F := F) c = seq ops := rfl

/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide

/-! ## What each part writes -/

/-- The buffers that a level writes. -/
def levelW (φ : LevelBufs) : List (Ref sig .tc) :=
  [ φ.far.slab.ref, φ.far.code.ref, φ.far.sq.ref, φ.far.z.ref, φ.far.rs.ref, φ.far.rcol.ref, φ.far.codeT.ref,
    φ.far.dot.ref, φ.far.two.ref, φ.far.twos.ref, φ.far.dbl.ref, φ.far.rcols.ref, φ.far.part.ref,
    φ.far.csq.ref, φ.far.cz.ref, φ.far.cs.ref, φ.far.crow.ref, φ.far.crows.ref, φ.far.dist.ref, φ.near.v0.ref,
    φ.near.cst.ref, φ.near.c.ref, φ.near.v1_0.ref, φ.near.v1_1.ref, φ.take.c.ref, φ.take.v0.ref,
    φ.take.v1.ref, φ.take.c_0.ref, φ.take.v2.ref, φ.take.v3.ref, φ.take.call0.v0.ref, φ.take.v5.ref,
    φ.take.c_1.ref, φ.take.c_2.ref, φ.take.v6.ref, φ.take.v7.ref, φ.take.v8.ref, φ.take.v9.ref,
    φ.take.v10.ref, φ.take.v11.ref, φ.take.c_3.ref, φ.take.v12.ref, φ.take.v13.ref, φ.take.v14.ref,
    φ.take.cst.ref, φ.take.v15.ref, φ.take.v16.ref, φ.step.d.ref, φ.step.dsq.ref, φ.step.z1.ref,
    φ.step.s1.ref, φ.step.n1.ref, φ.step.m1.ref, φ.step.e.ref, φ.step.esq.ref, φ.step.z2.ref, φ.step.s2.ref,
    φ.step.n2.ref, φ.step.m2.ref, φ.step.quarter.ref, φ.step.scaled.ref, φ.step.loss.ref, φ.step.rest.ref,
    φ.step.acc.ref ]

/-- The buffers that the encoder writes. -/
def encW : List (Ref sig .tc) :=
  [ main_v0, main_v1, main_v2, main_v3, main_call0_cst, main_call0_v0, main_v4, main_v5, main_v6, main_v7,
    main_v8, main_call1_cst, main_call1_v0, main_v9, main_v10, main_v11, main_v12, main_v13, main_cst,
    main_v14 ]

/-- The buffers that the tail writes. -/
def tailW : List (Ref sig .tc) :=
  [ main_v135, main_v136, main_v137, main_v138, main_v139, main_cst_32, main_v140, main_cst_33, main_v141,
    main_v142, main_v143, main_v144, main_v145, main_v146, main_v147, main_call10_cst, main_call10_v0,
    main_v148, main_v149, main_v150, main_v151, main_v152, main_call11_cst, main_call11_v0, main_v153,
    main_v154, main_v155, main_v156, main_v157 ]

section Level

variable (cut : Arr F S4x1024x256 → Arr F S1x1024x256) (r a : TRef sig ⟨S8192x256, .f32⟩) (φ : LevelBufs)
  (V : Valuation τ sig (Elt F))

/-- A level writes nothing else. -/
theorem level_keep (b : Ref sig .tc) (h : b ∉ levelW φ) : after (levelOps cut r a φ) V b = V b :=
  after_of_writes_sub _ V (forall_writes_sub_of_map rfl) h

/-- A level's operations touch buffers of the core only. -/
theorem level_sub : (levelOps cut r a φ).Forall fun op => op.bufs ⊆ tcRefs τ sig := by
  simp [levelOps, distOps, argminOps, takeOps, stepOps]

/-- A level's operations determine what they write. -/
theorem level_fresh : (levelOps cut r a φ).Forall fun op => op.fresh = ∅ := by
  simp only [levelOps, distOps, argminOps, takeOps, stepOps, List.cons_append, List.nil_append, List.Forall]
  and_intros <;> rfl

end Level

/-- The encoder writes nothing else. -/
theorem enc_keep (V : Valuation τ sig (Elt F)) (b : Ref sig .tc) (h : b ∉ encW) : after encOps V b = V b :=
  after_of_writes_sub _ V (forall_writes_sub_of_map rfl) h

/-- The tail writes nothing else. -/
theorem tail_keep (V : Valuation τ sig (Elt F)) (b : Ref sig .tc) (h : b ∉ tailW) : after tailOps V b = V b :=
  after_of_writes_sub _ V (forall_writes_sub_of_map rfl) h

/-- All operations touch buffers of the core only. -/
theorem ops_sub : (ops : List (HloOp τ sig (Elt F))).Forall fun op => op.bufs ⊆ tcRefs τ sig := by
  have he : (encOps : List (HloOp τ sig (Elt F))).Forall fun op => op.bufs ⊆ tcRefs τ sig := by
    simp [encOps, reluOps, relu_0Ops]
  have ht : (tailOps : List (HloOp τ sig (Elt F))).Forall fun op => op.bufs ⊆ tcRefs τ sig := by
    simp [tailOps, reluOps, relu_0Ops]
  exact List.forall_append.mpr ⟨he, List.forall_append.mpr ⟨level_sub .., List.forall_append.mpr ⟨level_sub ..,
    List.forall_append.mpr ⟨level_sub .., List.forall_append.mpr ⟨level_sub .., ht⟩⟩⟩⟩⟩

/-- All operations determine what they write. -/
theorem ops_fresh : ∀ op ∈ (ops : List (HloOp τ sig (Elt F))), op.fresh = ∅ := by
  have he : (encOps : List (HloOp τ sig (Elt F))).Forall fun op => op.fresh = ∅ := by
    simp only [encOps, reluOps, relu_0Ops, List.cons_append, List.nil_append, List.Forall]
    and_intros <;> rfl
  have ht : (tailOps : List (HloOp τ sig (Elt F))).Forall fun op => op.fresh = ∅ := by
    simp only [tailOps, reluOps, relu_0Ops, List.cons_append, List.nil_append, List.Forall]
    and_intros <;> rfl
  exact List.forall_iff_forall_mem.mp (List.forall_append.mpr ⟨he, List.forall_append.mpr ⟨level_fresh ..,
    List.forall_append.mpr ⟨level_fresh .., List.forall_append.mpr ⟨level_fresh ..,
    List.forall_append.mpr ⟨level_fresh .., ht⟩⟩⟩⟩⟩)

/-! ## The results as functions of the arguments -/

/-- Level `k`'s codes. -/
abbrev code0 (cbs : Arr F S4x1024x256) : Arr F S1024x256 := codeOf (cut0 cbs)
@[inherit_doc code0] abbrev code1 (cbs : Arr F S4x1024x256) : Arr F S1024x256 := codeOf (cut1 cbs)
@[inherit_doc code0] abbrev code2 (cbs : Arr F S4x1024x256) : Arr F S1024x256 := codeOf (cut2 cbs)
@[inherit_doc code0] abbrev code3 (cbs : Arr F S4x1024x256) : Arr F S1024x256 := codeOf (cut3 cbs)

/-- The residual after one level. -/
def restOf (r : Arr F S8192x256) (code : Arr F S1024x256) : Arr F S8192x256 := subf r (chosenOf r code)

/-- The residual before the level of the number in the name. -/
def rest1 (z : Arr F S8192x256) (cbs : Arr F S4x1024x256) : Arr F S8192x256 := restOf z (code0 cbs)
@[inherit_doc rest1] def rest2 (z : Arr F S8192x256) (cbs : Arr F S4x1024x256) := restOf (rest1 z cbs) (code1 cbs)
@[inherit_doc rest1] def rest3 (z : Arr F S8192x256) (cbs : Arr F S4x1024x256) := restOf (rest2 z cbs) (code2 cbs)

/-- The sum of the codes taken at the four levels. -/
def sumOf (z : Arr F S8192x256) (cbs : Arr F S4x1024x256) : Arr F S8192x256 :=
  addf (addf (addf (addf zeros (chosenOf z (code0 cbs))) (chosenOf (rest1 z cbs) (code1 cbs)))
    (chosenOf (rest2 z cbs) (code2 cbs))) (chosenOf (rest3 z cbs) (code3 cbs))

/-- The quantised rows as the decoder takes them. -/
def quantOf (z : Arr F S8192x256) (cbs : Arr F S4x1024x256) : Arr F S8192x256 := addf z (subf (sumOf z cbs) z)

/-- The mean loss of the four levels. -/
def refLoss (z : Arr F S8192x256) (cbs : Arr F S4x1024x256) : Arr F S_ :=
  meanLoss (lossOf z (chosenOf z (code0 cbs))) (lossOf (rest1 z cbs) (chosenOf (rest1 z cbs) (code1 cbs)))
    (lossOf (rest2 z cbs) (chosenOf (rest2 z cbs) (code2 cbs)))
    (lossOf (rest3 z cbs) (chosenOf (rest3 z cbs) (code3 cbs)))

/-- The program's arguments. -/
def argW : List (Ref sig .tc) :=
  [ main_arg0, main_arg1, main_arg2, main_arg3, main_arg4, main_arg5, main_arg6, main_arg7, main_arg8, main_arg9,
    main_arg10, main_arg11, main_arg12, main_arg13 ]

section Read

variable (V : Valuation τ sig (Elt F))

/-- The contents after the encoder, and after each level. -/
def V0 : Valuation τ sig (Elt F) := after encOps V
@[inherit_doc V0] def V1 : Valuation τ sig (Elt F) := after level0 (V0 V)
@[inherit_doc V0] def V2 : Valuation τ sig (Elt F) := after level1 (V1 V)
@[inherit_doc V0] def V3 : Valuation τ sig (Elt F) := after level2 (V2 V)
@[inherit_doc V0] def V4 : Valuation τ sig (Elt F) := after level3 (V3 V)

/-- All operations are the encoder, the four levels and the rest, in turn. -/
theorem after_ops : after ops V = after tailOps (V4 V) := by
  simp only [ops, after_append, V4, V3, V2, V1, V0]

/-- The encoder writes no argument. -/
theorem V0_arg : ∀ b ∈ argW, V0 V b = V b := fun b hb => enc_keep V b (by revert b; decide)
/-- Nor does the first level. -/
theorem V1_arg (b : Ref sig .tc) (hb : b ∈ argW) : V1 V b = V b :=
  (level_keep _ _ _ _ _ b (by revert b; decide)).trans (V0_arg V b hb)
/-- Nor does the second level. -/
theorem V2_arg (b : Ref sig .tc) (hb : b ∈ argW) : V2 V b = V b :=
  (level_keep _ _ _ _ _ b (by revert b; decide)).trans (V1_arg V b hb)
/-- Nor does the third level. -/
theorem V3_arg (b : Ref sig .tc) (hb : b ∈ argW) : V3 V b = V b :=
  (level_keep _ _ _ _ _ b (by revert b; decide)).trans (V2_arg V b hb)
/-- Nor does the fourth level. -/
theorem V4_arg (b : Ref sig .tc) (hb : b ∈ argW) : V4 V b = V b :=
  (level_keep _ _ _ _ _ b (by revert b; decide)).trans (V3_arg V b hb)

/-- No operation writes an argument. -/
theorem after_ops_arg (b : Ref sig .tc) (hb : b ∈ argW) : after ops V b = V b := by
  rw [after_ops]
  exact (tail_keep _ b (by revert b; decide)).trans (V4_arg V b hb)

/-- The encoded rows. -/
def encV : Arr F S8192x256 :=
  encOf (V (main_arg0 : Ref sig .tc)) (V (main_arg1 : Ref sig .tc)) (V (main_arg2 : Ref sig .tc))
    (V (main_arg3 : Ref sig .tc)) (V (main_arg4 : Ref sig .tc)) (V (main_arg5 : Ref sig .tc))
    (V (main_arg6 : Ref sig .tc))

/-- The code books. -/
abbrev cbsV : Arr F S4x1024x256 := V (main_arg13 : Ref sig .tc)

/-- The encoded rows are there after the levels. -/
theorem V4_z : V4 V (main_v13 : Ref sig .tc) = encV V :=
  (level_keep _ _ _ _ _ main_v13 (by decide)).trans <| (level_keep _ _ _ _ _ main_v13 (by decide)).trans <|
    (level_keep _ _ _ _ _ main_v13 (by decide)).trans <| (level_keep _ _ _ _ _ main_v13 (by decide)).trans
    (enc_read V).1

/-- After the first level. -/
theorem V1_read : V1 V (main_v42 : Ref sig .tc) = lossOf (encV V) (chosenOf (encV V) (code0 (cbsV V)))
    ∧ V1 V (main_v43 : Ref sig .tc) = rest1 (encV V) (cbsV V)
    ∧ V1 V (main_v44 : Ref sig .tc) = addf zeros (chosenOf (encV V) (code0 (cbsV V))) := by
  have h := levels_read.1 (V0 V)
  simp only [TRef.ofBuf, cast_eq] at h
  rw [V0_arg V main_arg13 (by decide), show V0 V (main_v13 : Ref sig .tc) = encV V from (enc_read V).1,
    show V0 V (main_v14 : Ref sig .tc) = zeros from (enc_read V).2] at h
  exact h

/-- After the second level. -/
theorem V2_read :
    V2 V (main_v72 : Ref sig .tc)
      = lossOf (rest1 (encV V) (cbsV V)) (chosenOf (rest1 (encV V) (cbsV V)) (code1 (cbsV V)))
    ∧ V2 V (main_v73 : Ref sig .tc) = rest2 (encV V) (cbsV V)
    ∧ V2 V (main_v74 : Ref sig .tc) = addf (addf zeros (chosenOf (encV V) (code0 (cbsV V))))
        (chosenOf (rest1 (encV V) (cbsV V)) (code1 (cbsV V))) := by
  have h := levels_read.2.1 (V1 V)
  simp only [TRef.ofBuf, cast_eq] at h
  rw [V1_arg V main_arg13 (by decide), (V1_read V).2.1, (V1_read V).2.2] at h
  exact h

/-- After the third level. -/
theorem V3_read :
    V3 V (main_v102 : Ref sig .tc)
      = lossOf (rest2 (encV V) (cbsV V)) (chosenOf (rest2 (encV V) (cbsV V)) (code2 (cbsV V)))
    ∧ V3 V (main_v103 : Ref sig .tc) = rest3 (encV V) (cbsV V)
    ∧ V3 V (main_v104 : Ref sig .tc) = addf (addf (addf zeros (chosenOf (encV V) (code0 (cbsV V))))
        (chosenOf (rest1 (encV V) (cbsV V)) (code1 (cbsV V))))
        (chosenOf (rest2 (encV V) (cbsV V)) (code2 (cbsV V))) := by
  have h := levels_read.2.2.1 (V2 V)
  simp only [TRef.ofBuf, cast_eq] at h
  rw [V2_arg V main_arg13 (by decide), (V2_read V).2.1, (V2_read V).2.2] at h
  exact h

/-- After the fourth level. -/
theorem V4_read :
    V4 V (main_v132 : Ref sig .tc)
      = lossOf (rest3 (encV V) (cbsV V)) (chosenOf (rest3 (encV V) (cbsV V)) (code3 (cbsV V)))
    ∧ V4 V (main_v134 : Ref sig .tc) = sumOf (encV V) (cbsV V) := by
  have h := levels_read.2.2.2 (V3 V)
  simp only [TRef.ofBuf, cast_eq] at h
  rw [V3_arg V main_arg13 (by decide), (V3_read V).2.1, (V3_read V).2.2] at h
  exact ⟨h.1, h.2.2⟩

/-- The first level's loss is there after the levels. -/
theorem V4_loss0 : V4 V (main_v42 : Ref sig .tc) = lossOf (encV V) (chosenOf (encV V) (code0 (cbsV V))) :=
  (level_keep _ _ _ _ _ main_v42 (by decide)).trans <| (level_keep _ _ _ _ _ main_v42 (by decide)).trans <|
    (level_keep _ _ _ _ _ main_v42 (by decide)).trans (V1_read V).1

/-- The second level's loss is there after the levels. -/
theorem V4_loss1 : V4 V (main_v72 : Ref sig .tc)
    = lossOf (rest1 (encV V) (cbsV V)) (chosenOf (rest1 (encV V) (cbsV V)) (code1 (cbsV V))) :=
  (level_keep _ _ _ _ _ main_v72 (by decide)).trans <| (level_keep _ _ _ _ _ main_v72 (by decide)).trans (V2_read V).1

/-- The third level's loss is there after the levels. -/
theorem V4_loss2 : V4 V (main_v102 : Ref sig .tc)
    = lossOf (rest2 (encV V) (cbsV V)) (chosenOf (rest2 (encV V) (cbsV V)) (code2 (cbsV V))) :=
  (level_keep _ _ _ _ _ main_v102 (by decide)).trans (V3_read V).1

/-- The decoded rows. -/
def outV : Arr F S8192x768 :=
  decOf (quantOf (encV V) (cbsV V)) (V (main_arg7 : Ref sig .tc)) (V (main_arg8 : Ref sig .tc))
    (V (main_arg9 : Ref sig .tc)) (V (main_arg10 : Ref sig .tc)) (V (main_arg11 : Ref sig .tc))
    (V (main_arg12 : Ref sig .tc))

/-- The first result. -/
theorem after_ops_out : after ops V (main_v157 : Ref sig .tc) = outV V := by
  rw [after_ops, (tail_read _).1, V4_z, (V4_read V).2]
  simp only [V4_arg V _ (show main_arg7 ∈ argW by decide), V4_arg V _ (show main_arg8 ∈ argW by decide),
    V4_arg V _ (show main_arg9 ∈ argW by decide), V4_arg V _ (show main_arg10 ∈ argW by decide),
    V4_arg V _ (show main_arg11 ∈ argW by decide), V4_arg V _ (show main_arg12 ∈ argW by decide)]
  rfl

/-- The second result. -/
theorem after_ops_loss : after ops V (main_v141 : Ref sig .tc) = refLoss (encV V) (cbsV V) := by
  rw [after_ops, (tail_read _).2, V4_loss0, V4_loss1, V4_loss2, (V4_read V).1]
  rfl

end Read

/-- The reference runs, and ends with its results at these functions of its arguments and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = outV (launchContents m c)
      ∧ r.2.mem ((c.tc : Thread nD τ).loc main_v141)
        = refLoss (encV (launchContents m c)) (cbsV (launchContents m c))
      ∧ ∀ b ∈ argW, r.2.mem ((c.tc : Thread nD τ).loc b) = m ((c.tc : Thread nD τ).loc b) :=
  (θ_run defs _ _).mono
    (fun _ h c => ⟨(h c main_v157).trans (after_ops_out _), (h c main_v141).trans (after_ops_loss _),
      fun b hb => (h c b).trans (after_ops_arg _ b hb)⟩)
    (run_seq scopedRefs_eq scopedSems_eq defs main (fun _ => ops) main_eq (fun _ => ops_sub) m ρ fun _ => ops_fresh)

end Cert.ReferenceIdeal.Ops
-- ==== Proof.RefValue.lean ====
/-
  The reference's results, row by row, over the extended reals.
-/
module

public import proofs.«01_k».proof.Proof.RefRows
public import proofs.«01_k».proof.Proof.RefRun
public import proofs.«01_k».proof.Proof.Finite
public import Idealize.ShloMosaic.Lib.Pointwise

@[expose] public section

set_option maxRecDepth 16384

noncomputable section

namespace Cert.ReferenceIdeal.Ops

open Cert.ReferenceIdeal Cert.ReferenceIdeal.Gen Cert.Model Idealize.ShloMosaic

/-! ## The layers -/

/-- Row `i`, encoded. -/
theorem enc_row (x : FVec Ideal S8192x768 .f32) (w1 : FVec Ideal S768x2048 .f32) (b1 : FVec Ideal S2048 .f32)
    (w2 : FVec Ideal S2048x1024 .f32) (b2 : FVec Ideal S1024 .f32) (w3 : FVec Ideal S1024x256 .f32)
    (b3 : FVec Ideal S256 .f32) (i : Fin 8192) :
    rowOf (encOf (F := Ideal) x w1 b1 w2 b2 w3 b3) i
      = mlp (rowOf x i) (matOf w1) (vecOf b1) (matOf w2) (vecOf b2) (matOf w3) (vecOf b3) := by
  funext j
  pointwise [rowOf, encOf, enc1, enc2, enc3, relu2048, relu1024, mlp, dense, relu]

/-- Row `i`, decoded. -/
theorem dec_row (x : FVec Ideal S8192x256 .f32) (w1 : FVec Ideal S256x1024 .f32) (b1 : FVec Ideal S1024 .f32)
    (w2 : FVec Ideal S1024x2048 .f32) (b2 : FVec Ideal S2048 .f32) (w3 : FVec Ideal S2048x768 .f32)
    (b3 : FVec Ideal S768 .f32) (i : Fin 8192) :
    rowOf (decOf (F := Ideal) x w1 b1 w2 b2 w3 b3) i
      = mlp (rowOf x i) (matOf w1) (vecOf b1) (matOf w2) (vecOf b2) (matOf w3) (vecOf b3) := by
  funext j
  pointwise [rowOf, decOf, dec1, dec2, dec3, relu2048, relu1024, mlp, dense, relu]

/-! ## The levels -/

section Levels

variable (r : FVec Ideal S8192x256 .f32) (cb : FVec Ideal S1024x256 .f32) (z : FVec Ideal S8192x256 .f32)
  (cbs : FVec Ideal S4x1024x256 .f32) (i : Fin 8192)

/-- The first code book, as a matrix. -/
theorem matOf_code0 : matOf (code0 (F := Ideal) cbs) = booksOf cbs 0 := by
  funext k j; pointwise [matOf, booksOf, code0, codeOf, cut0]
/-- The second code book, as a matrix. -/
theorem matOf_code1 : matOf (code1 (F := Ideal) cbs) = booksOf cbs 1 := by
  funext k j; pointwise [matOf, booksOf, code1, codeOf, cut1]
/-- The third code book, as a matrix. -/
theorem matOf_code2 : matOf (code2 (F := Ideal) cbs) = booksOf cbs 2 := by
  funext k j; pointwise [matOf, booksOf, code2, codeOf, cut2]
/-- The fourth code book, as a matrix. -/
theorem matOf_code3 : matOf (code3 (F := Ideal) cbs) = booksOf cbs 3 := by
  funext k j; pointwise [matOf, booksOf, code3, codeOf, cut3]

/-- What a level leaves of row `i`. -/
theorem restOf_row : rowOf (restOf (F := Ideal) r cb) i = Model.rest (rowOf r i) (matOf cb) := by
  funext j
  pointwise [rowOf, restOf, Model.rest]
  rw [chosenOf_row]

/-- Row `i` after the first level. -/
theorem rest1_row : rowOf (rest1 (F := Ideal) z cbs) i = Model.rest1 (rowOf z i) (booksOf cbs) := by
  rw [rest1, restOf_row, matOf_code0]; rfl
/-- Row `i` after the second level. -/
theorem rest2_row : rowOf (rest2 (F := Ideal) z cbs) i = Model.rest2 (rowOf z i) (booksOf cbs) := by
  rw [rest2, restOf_row, matOf_code1, rest1_row]; rfl
/-- Row `i` after the third level. -/
theorem rest3_row : rowOf (rest3 (F := Ideal) z cbs) i = Model.rest3 (rowOf z i) (booksOf cbs) := by
  rw [rest3, restOf_row, matOf_code2, rest2_row]; rfl

/-- The sum of the code words of row `i`. -/
theorem sumOf_row : rowOf (sumOf (F := Ideal) z cbs) i = quant (rowOf z i) (booksOf cbs) := by
  funext j
  pointwise [rowOf, sumOf, zeros]
  rw [chosenOf_row, chosenOf_row, chosenOf_row, chosenOf_row, matOf_code0, matOf_code1, matOf_code2, matOf_code3,
    rest1_row, rest2_row, rest3_row]
  rfl

/-- Taking a real number off and adding it back changes nothing. -/
theorem add_sub_real (a : ℝ) (s : EReal) : (a : EReal) + (s - a) = s := by
  induction s using EReal.rec with
  | bot => rfl
  | top => rfl
  | coe s => rw [← EReal.coe_sub, ← EReal.coe_add]; congr 1; ring

/-- On real entries the straight-through sum is the sum of the codes. -/
theorem quantOf_row (hz : ∀ j, ∃ a : ℝ, rowOf z i j = a) :
    rowOf (quantOf (F := Ideal) z cbs) i = quant (rowOf z i) (booksOf cbs) := by
  funext j
  obtain ⟨a, ha⟩ := hz j
  rw [← sumOf_row]
  show rowOf z i j + (rowOf (sumOf (F := Ideal) z cbs) i j - rowOf z i j) = _
  rw [ha, add_sub_real]

end Levels

/-! ## The loss -/

/-- One level's loss, of the squares of what the level leaves. -/
theorem lossOf_eq (r : FVec Ideal S8192x256 .f32) (cb : FVec Ideal S1024x256 .f32) :
    lossOf (F := Ideal) r (chosenOf r cb) ix0 = levelLoss (∑ i, sq (Model.rest (rowOf r i) (matOf cb))) := by
  have e : ∀ i : Fin 8192, ∀ j : Fin 256, (pick (rowOf r i) (matOf cb) j - r (ix2 i j)) * (pick (rowOf r i) (matOf cb) j - r (ix2 i j))
      = (r (ix2 i j) - pick (rowOf r i) (matOf cb) j) * (r (ix2 i j) - pick (rowOf r i) (matOf cb) j) :=
    fun i j => sub_sq _ _
  pointwise [lossOf, meanSq]
  simp only [chosenOf_row, e]
  rfl

/-- The mean of the four levels' losses. -/
theorem meanLoss_apply (l0 l1 l2 l3 : FVec Ideal S_ .f32) : meanLoss (F := Ideal) l0 l1 l2 l3 ix0
    = Ideal.div (l0 ix0 + l1 ix0 + l2 ix0 + l3 ix0) (Ideal.ofBits .f32 0x40800000#32) := by
  pointwise [meanLoss, fourLosses]
  rw [Fin.sum_univ_four]
  rfl

/-- The loss, of the squares of the rows' residuals. -/
theorem refLoss_eq (z : FVec Ideal S8192x256 .f32) (cbs : FVec Ideal S4x1024x256 .f32) :
    refLoss (F := Ideal) z cbs ix0
      = Model.meanLoss (∑ i, sq (Model.rest1 (rowOf z i) (booksOf cbs))) (∑ i, sq (Model.rest2 (rowOf z i) (booksOf cbs)))
          (∑ i, sq (Model.rest3 (rowOf z i) (booksOf cbs))) (∑ i, sq (Model.rest4 (rowOf z i) (booksOf cbs))) := by
  rw [refLoss, meanLoss_apply, lossOf_eq, lossOf_eq, lossOf_eq, lossOf_eq]
  simp only [matOf_code0, matOf_code1, matOf_code2, matOf_code3, rest1_row, rest2_row, rest3_row]
  rfl

end Cert.ReferenceIdeal.Ops
-- ==== Proof.FiniteEncoding.lean ====
/-
  The precondition read back: every entry of the rows and of the encoder is a real number.
-/
module

public import proofs.«01_k».proof.Proof.Gen.Pre_finite_encoding
public import proofs.«01_k».proof.Proof.Finite
public import Idealize.ShloMosaic.Lib.ReduceAll

@[expose] public section

set_option maxRecDepth 16384

noncomputable section

namespace Cert.Pre_finite_encoding

open Cert.Pre_finite_encoding Cert.Model Idealize.ShloMosaic

/-- Every entry is a real number. -/
def AllReal {s : Shape} (x : FVec Ideal s .f32) : Prop := ∀ i, IsReal (x i)

/-- A comparison "less than" that came out true is one. -/
theorem lt_of_cmp {x y : EReal} (h : Ideal.cmp .olt x y = 1#1) : x < y := by
  by_contra hn
  simp [Ideal.cmp, hn] at h

/-- The test of one argument: were all absolute values below infinity, every entry is a real number. -/
theorem allReal_of_test {s : Shape} {axes : List (Fin s.rank)} (x : FVec Ideal s .f32)
    (hb : S_.BroadcastsInDim s (![] : Fin 0 → Fin s.rank)) (hr : s.ReducesTo axes S_) (h0 : 0 < S_.numel) (j : S_.Idx)
    (h : Host.reduce IntOp.andi (cmpf .olt (Host.absf x) (broadcastInDim s ![] hb (constant S_ .f32 0x7F800000#32)))
      (constantI S_ 1 1#1) hr h0 j = 1#1) : AllReal x := by
  intro i
  have : Subsingleton S_.Idx := ⟨fun a b => funext fun k => k.elim0⟩
  have e : Ideal.cmp .olt (max (x i) (-x i)) (Ideal.ofBits .f32 0x7F800000#32) = 1#1 := Host.reduce_andi_all _ _ hr h0 j h i
  rw [ofBits_top] at e
  exact isReal_of_abs_lt (lt_of_cmp e)

/-- A conjunction that holds has both its halves. -/
theorem andi_halves {a b : IVec S_ 1} {j : S_.Idx} (h : andi a b j = 1#1) : a j = 1#1 ∧ b j = 1#1 :=
  IntOp.andi_eq_one.1 h

/-- Under the precondition the rows and the encoder's arguments hold real numbers only. -/
theorem args_real (x0 : FVec Ideal S8192x768 .f32) (x1 : FVec Ideal S768x2048 .f32) (x2 : FVec Ideal S2048 .f32)
    (x3 : FVec Ideal S2048x1024 .f32) (x4 : FVec Ideal S1024 .f32) (x5 : FVec Ideal S1024x256 .f32) (x6 : FVec Ideal S256 .f32)
    (x7 : FVec Ideal S256x1024 .f32) (x8 : FVec Ideal S1024 .f32) (x9 : FVec Ideal S1024x2048 .f32) (x10 : FVec Ideal S2048 .f32)
    (x11 : FVec Ideal S2048x768 .f32) (x12 : FVec Ideal S768 .f32) (x13 : FVec Ideal S4x1024x256 .f32) (j : S_.Idx)
    (h : fn (F := Ideal) x0 x1 x2 x3 x4 x5 x6 x7 x8 x9 x10 x11 x12 x13 j = 1#1) :
    AllReal x0 ∧ AllReal x1 ∧ AllReal x2 ∧ AllReal x3 ∧ AllReal x4 ∧ AllReal x5 ∧ AllReal x6 := by
  simp only [fn, fn_part1, fn_part2] at h
  obtain ⟨h, h6⟩ := andi_halves h
  obtain ⟨h, h5⟩ := andi_halves h
  obtain ⟨h, h4⟩ := andi_halves h
  obtain ⟨h, h3⟩ := andi_halves h
  obtain ⟨h, h2⟩ := andi_halves h
  obtain ⟨h, h1⟩ := andi_halves h
  obtain ⟨_, h0⟩ := andi_halves h
  exact ⟨allReal_of_test _ _ _ _ _ h0, allReal_of_test _ _ _ _ _ h1, allReal_of_test _ _ _ _ _ h2,
    allReal_of_test _ _ _ _ _ h3, allReal_of_test _ _ _ _ _ h4, allReal_of_test _ _ _ _ _ h5, allReal_of_test _ _ _ _ _ h6⟩

end Cert.Pre_finite_encoding
-- ==== Proof.Agree.lean ====
/-
  The kernel's two results are the reference's: the first where the rows and the encoder are finite, the loss always.
-/
module

public import proofs.«01_k».proof.Proof.KernelValue
public import proofs.«01_k».proof.Proof.RefValue
public import proofs.«01_k».proof.Proof.FiniteEncoding

@[expose] public section

set_option maxRecDepth 16384

noncomputable section

namespace Cert.Agree

open Cert.KernelIdeal Cert.KernelIdeal.Gen Cert.KernelIdeal.Blocks Cert.Model Idealize.ShloMosaic

variable (m : (ℓ : Loc nD τ sig) → Buf (Elt Ideal) ℓ) (c : Dev nD)

/-- The rows and the encoder's arguments hold real numbers only. -/
def EncodingReal : Prop :=
  open Pre_finite_encoding in
  AllReal (a0 m c) ∧ AllReal (a1 m c) ∧ AllReal (a2 m c) ∧ AllReal (a3 m c) ∧ AllReal (a4 m c) ∧ AllReal (a5 m c)
    ∧ AllReal (a6 m c)

/-- The rows as the reference encodes them. -/
abbrev enc : FVec Ideal ⟨2, ![8192, 256]⟩ .f32 :=
  ReferenceIdeal.Ops.encOf (a0 m c) (a1 m c) (a2 m c) (a3 m c) (a4 m c) (a5 m c) (a6 m c)

/-- The first result of the reference. -/
abbrev refOut : FVec Ideal ⟨2, ![8192, 768]⟩ .f32 :=
  ReferenceIdeal.Ops.decOf (ReferenceIdeal.Ops.quantOf (enc m c) (a13 m c)) (a7 m c) (a8 m c) (a9 m c) (a10 m c) (a11 m c)
    (a12 m c)

/-- Both encode a row alike. -/
theorem enc_row (i : Fin 8192) : rowOf (enc m c) i = encoded m c i := ReferenceIdeal.Ops.enc_row _ _ _ _ _ _ _ i

variable {m c}

/-- An encoded row is real. -/
theorem encoded_real (h : EncodingReal m c) (i : Fin 8192) : RealRow (encoded m c i) := by
  obtain ⟨h0, h1, h2, h3, h4, h5, h6⟩ := h
  exact mlp_real (fun _ => h0 _) (fun _ _ => h1 _) (fun _ => h2 _) (fun _ _ => h3 _) (fun _ => h4 _) (fun _ _ => h5 _)
    fun _ => h6 _

/-- A row that the reference encodes is real. -/
theorem enc_real (h : EncodingReal m c) (i : Fin 8192) : RealRow (rowOf (enc m c) i) := by
  rw [enc_row]; exact encoded_real h i

/-- The first results agree row by row. -/
theorem out_row (h : EncodingReal m c) (i : Fin 8192) : rowOf (finalY m c) i = rowOf (refOut m c) i := by
  rw [finalY_eq, ReferenceIdeal.Ops.dec_row, ReferenceIdeal.Ops.quantOf_row _ _ _ (enc_real h i), enc_row, decoded]

/-- The first results agree. -/
theorem out_eq (h : EncodingReal m c) : finalY m c = refOut m c := by
  funext i
  rw [← ix2_eta i]
  exact congrFun (out_row h (i 0)) (i 1)

variable (m c)

/-- The losses agree. -/
theorem loss_eq : shapeCast S_ (finalLoss m c) shapeCasts_S1x1_S_ = ReferenceIdeal.Ops.refLoss (enc m c) (a13 m c) := by
  have e : shapeCast S_ (finalLoss m c) shapeCasts_S1x1_S_ ix0 = finalLoss m c (ix2 0 0) := by pointwise
  funext i
  rw [← ix0_eta i, e, finalLoss_eq, ReferenceIdeal.Ops.refLoss_eq]
  simp only [enc_row]
  exact Model.loss_eq (encoded m c) (booksOf (a13 m c)) (fun t p => rowAt ⟨t.val, _⟩ p) fun _ _ => rfl

end Cert.Agree
-- ==== Proof.Claims.lean ====
/-
  The claims about the reference alone and about the two idealized programs, from their runs.
-/
module

public import proofs.«01_k».proof.Defs
public import proofs.«01_k».proof.Proof.Gen.KernelIdeal.Run
public import proofs.«01_k».proof.Proof.Agree
public import Idealize.ShloMosaic.Lib.Quiescent

@[expose] public section

set_option maxRecDepth 16384

noncomputable section

namespace Cert.Agree

open Idealize.ShloMosaic Idealize.SL.Sem Idealize.ShloMosaic.StableHlo Cert.Model

/-! ## The reference's run -/

/-- The reference leaves its arguments unchanged and every semaphore counter at zero: it has no semaphore. -/
theorem quiescent_reference : quiescent_ReferenceIdeal := by
  intro m g _
  refine θ_run_mono (ReferenceIdeal.Ops.run m g) fun r h => ⟨fun c => ?_, sem_eq_zero_of_no_sems (by decide) _⟩
  have k := (h c).2.2
  exact ⟨k _ (by decide), k _ (by decide), k _ (by decide), k _ (by decide), k _ (by decide), k _ (by decide), k _ (by decide),
    k _ (by decide), k _ (by decide), k _ (by decide), k _ (by decide), k _ (by decide), k _ (by decide), k _ (by decide)⟩

section Read

open ReferenceIdeal.Ops TcCoe

variable {V : Valuation ReferenceIdeal.τ ReferenceIdeal.sig (Elt Ideal)} {m : (ℓ : Loc KernelIdeal.nD KernelIdeal.τ KernelIdeal.sig) → Buf (Elt Ideal) ℓ}
  {c : Dev KernelIdeal.nD}

/-- The rows encoded from contents that are the kernel's arguments. -/
theorem encV_eq (e0 : V (ReferenceIdeal.main_arg0 : Ref ReferenceIdeal.sig .tc) = KernelIdeal.Blocks.a0 m c)
    (e1 : V (ReferenceIdeal.main_arg1 : Ref ReferenceIdeal.sig .tc) = KernelIdeal.Blocks.a1 m c)
    (e2 : V (ReferenceIdeal.main_arg2 : Ref ReferenceIdeal.sig .tc) = KernelIdeal.Blocks.a2 m c)
    (e3 : V (ReferenceIdeal.main_arg3 : Ref ReferenceIdeal.sig .tc) = KernelIdeal.Blocks.a3 m c)
    (e4 : V (ReferenceIdeal.main_arg4 : Ref ReferenceIdeal.sig .tc) = KernelIdeal.Blocks.a4 m c)
    (e5 : V (ReferenceIdeal.main_arg5 : Ref ReferenceIdeal.sig .tc) = KernelIdeal.Blocks.a5 m c)
    (e6 : V (ReferenceIdeal.main_arg6 : Ref ReferenceIdeal.sig .tc) = KernelIdeal.Blocks.a6 m c) :
    encV V = enc m c := by
  rw [encV, e0, e1, e2, e3, e4, e5, e6]

/-- The first result from contents that are the kernel's arguments. -/
theorem outV_eq (hz : encV V = enc m c) (hc : cbsV V = KernelIdeal.Blocks.a13 m c)
    (e7 : V (ReferenceIdeal.main_arg7 : Ref ReferenceIdeal.sig .tc) = KernelIdeal.Blocks.a7 m c)
    (e8 : V (ReferenceIdeal.main_arg8 : Ref ReferenceIdeal.sig .tc) = KernelIdeal.Blocks.a8 m c)
    (e9 : V (ReferenceIdeal.main_arg9 : Ref ReferenceIdeal.sig .tc) = KernelIdeal.Blocks.a9 m c)
    (e10 : V (ReferenceIdeal.main_arg10 : Ref ReferenceIdeal.sig .tc) = KernelIdeal.Blocks.a10 m c)
    (e11 : V (ReferenceIdeal.main_arg11 : Ref ReferenceIdeal.sig .tc) = KernelIdeal.Blocks.a11 m c)
    (e12 : V (ReferenceIdeal.main_arg12 : Ref ReferenceIdeal.sig .tc) = KernelIdeal.Blocks.a12 m c) :
    outV V = refOut m c := by
  rw [outV, hz, hc, e7, e8, e9, e10, e11, e12]

end Read

/-! ## The two runs together -/

/-- The precondition, read at a device. -/
theorem encodingReal {m : (ℓ : Loc KernelIdeal.nD KernelIdeal.τ KernelIdeal.sig) → Buf (Elt Ideal) ℓ}
    (h : Pre_KernelIdeal_finite_encoding m) (c : Dev KernelIdeal.nD) : EncodingReal m c :=
  Pre_finite_encoding.args_real _ _ _ _ _ _ _ _ _ _ _ _ _ _ ix0 (congrFun (h c) ix0)

/-- Where the rows and the encoder are finite, the two idealized programs end with the same results. -/
theorem algebraic : algebraic_KernelIdeal_ReferenceIdeal_pre_finite_encoding := by
  intro m g m' g' hpre hargs
  refine ⟨fun c => KernelIdeal.Blocks.finalY m c,
    fun c => shapeCast _ (KernelIdeal.Blocks.finalLoss m c) KernelIdeal.Gen.shapeCasts_S1x1_S_,
    θ_run_mono (KernelIdeal.Value.run m g) fun r h c => ?_, θ_run_mono (ReferenceIdeal.Ops.run m' g') fun r h c => ?_⟩
  · obtain ⟨hY, hL, hrest⟩ := h c
    exact ⟨hY.trans (KernelIdeal.Blocks.arrY m c),
      hL.trans (congrArg (fun l => shapeCast _ l KernelIdeal.Gen.shapeCasts_S1x1_S_) (KernelIdeal.Blocks.arrLoss m c)), hrest⟩
  · obtain ⟨hY, hL, k⟩ := h c
    obtain ⟨e0, e1, e2, e3, e4, e5, e6, e7, e8, e9, e10, e11, e12, e13⟩ := hargs c
    have hz : ReferenceIdeal.Ops.encV (launchContents m' c) = enc m c := encV_eq e0 e1 e2 e3 e4 e5 e6
    have hc : ReferenceIdeal.Ops.cbsV (launchContents m' c) = KernelIdeal.Blocks.a13 m c := e13
    have hout : ReferenceIdeal.Ops.outV (launchContents m' c) = refOut m c := outV_eq hz hc e7 e8 e9 e10 e11 e12
    refine ⟨hY.trans (hout.trans (out_eq (encodingReal hpre c)).symm), hL.trans ?_, ?_⟩
    · rw [hz, hc]; exact (loss_eq m c).symm
    · exact ⟨k _ (by decide), k _ (by decide), k _ (by decide), k _ (by decide), k _ (by decide), k _ (by decide),
        k _ (by decide), k _ (by decide), k _ (by decide), k _ (by decide), k _ (by decide), k _ (by decide), k _ (by decide),
        k _ (by decide)⟩

end Cert.Agree
-- ==== Proof.lean ====
/-
  The proof of `Cert.Claim` (proofs.«01_k».proof.Defs). The frames of the two kernels are the generated ones; the reference's
  frame and the equality of the results are in Proof/Claims.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.ReferenceIdeal
public import proofs.«01_k».proof.Proof.Gen.Pre_finite_encoding
public import proofs.«01_k».proof.Proof.Claims
public import Idealize.ShloMosaic.Adequacy
public import Idealize.ShloMosaic.Init

@[expose] public section

noncomputable section

namespace Cert.Proof

open Idealize.ShloMosaic

/-- Every claim of the certificate. -/
theorem claim : Cert.Claim :=
  ⟨Cert.Kernel.Gen.facts, Cert.KernelIdeal.Gen.facts, Cert.ReferenceIdeal.Gen.facts, Cert.Pre_finite_encoding.Gen.facts,
    fun m ρ _ => Cert.Kernel.Gen.frame m ρ, fun m ρ _ => Cert.KernelIdeal.Gen.frame m ρ,
    fun m ρ _ => Cert.KernelIdeal.Gen.frame m ρ, Cert.Agree.quiescent_reference,
    fun m ρ _ => Cert.Agree.quiescent_reference m ρ trivial, trivial, Cert.Agree.algebraic⟩

end Cert.Proof

end
